-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_graph [hPre_finite_graph : Cert.Pre_finite_graph.Facts] (m : (ℓ : Loc Cert.KernelIdeal.nD Cert.KernelIdeal.τ Cert.KernelIdeal.sig) → Buf (Elt Ideal) ℓ) : Prop :=
  ∀ c : Dev Cert.KernelIdeal.nD,
    (Cert.Pre_finite_graph.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 = (fun _ => 1#1)
    ∧ (Cert.Pre_finite_graph.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_graph [hPre_finite_graph : Cert.Pre_finite_graph.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_graph.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).1 = (fun _ => 1#1)
    ∧ (Cert.Pre_finite_graph.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite_graph [hKernelIdeal : Cert.KernelIdeal.Facts] [hPre_finite_graph : Cert.Pre_finite_graph.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_graph m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite_graph [hReferenceIdeal : Cert.ReferenceIdeal.Facts] [hPre_finite_graph : Cert.Pre_finite_graph.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_graph m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  IdealRules.named_const.Statement Cert.KernelIdeal.κ "inv_scale" .f32 0x38000100#32 ((1 / 32767 : ℝ) : EReal)

def algebraic_KernelIdeal_ReferenceIdeal_pre_finite_graph [hKernelIdeal : Cert.KernelIdeal.Facts] [hReferenceIdeal : Cert.ReferenceIdeal.Facts] [hPre_finite_graph : Cert.Pre_finite_graph.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_graph m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_graph : Cert.Pre_finite_graph.Facts),
    quiescent_Kernel (hKernel := hKernel)
    ∧ quiescent_KernelIdeal (hKernelIdeal := hKernelIdeal)
    ∧ quiescent_KernelIdeal_pre_finite_graph (hKernelIdeal := hKernelIdeal) (hPre_finite_graph := hPre_finite_graph)
    ∧ quiescent_ReferenceIdeal (hReferenceIdeal := hReferenceIdeal)
    ∧ quiescent_ReferenceIdeal_pre_finite_graph (hReferenceIdeal := hReferenceIdeal) (hPre_finite_graph := hPre_finite_graph)
    ∧ preserves_Kernel_KernelIdeal
    ∧ algebraic_KernelIdeal_ReferenceIdeal_pre_finite_graph (hKernelIdeal := hKernelIdeal) (hReferenceIdeal := hReferenceIdeal) (hPre_finite_graph := hPre_finite_graph)
-- ==== Pre_finite_graph.lean ====
abbrev S4096x3x128 : Shape := ⟨3, ![4096, 3, 128]⟩
abbrev S3x4096x4096 : Shape := ⟨3, ![3, 4096, 4096]⟩
abbrev S16x16 : Shape := ⟨2, ![16, 16]⟩
abbrev S4096x16 : Shape := ⟨2, ![4096, 16]⟩
abbrev S128x128 : Shape := ⟨2, ![128, 128]⟩
abbrev S128 : Shape := ⟨1, ![128]⟩
abbrev S128x16 : Shape := ⟨2, ![128, 16]⟩
abbrev S16 : Shape := ⟨1, ![16]⟩
abbrev S_ : Shape := ⟨0, ![]⟩

class Facts : Prop where
  bcast_S_S3x4096x4096 : S_.BroadcastsInDim S3x4096x4096 (![] : Fin 0 → Fin S3x4096x4096.rank)
  bcast_S_S4096x16 : S_.BroadcastsInDim S4096x16 (![] : Fin 0 → Fin S4096x16.rank)

variable [Facts]

def fn {F : FTy → Type} [FloatOps F] (main_arg0 : FVec F S4096x3x128 .f32) (main_arg1 : FVec F S3x4096x4096 .f32) (main_arg2 : FVec F S16x16 .f32) (main_arg3 : FVec F S4096x16 .f32) (main_arg4 : FVec F S128x128 .f32) (main_arg5 : FVec F S128 .f32) (main_arg6 : FVec F S128x16 .f32) (main_arg7 : FVec F S16 .f32) : IVec S3x4096x4096 1 × IVec S4096x16 1 :=
  let main_v0 : FVec F S3x4096x4096 .f32 := Host.absf main_arg1
  let main_cst : FVec F S_ .f32 := constant S_ .f32 0x7F800000#32
  let main_v1 : FVec F S3x4096x4096 .f32 := broadcastInDim S3x4096x4096 ![] bcast_S_S3x4096x4096 main_cst
  let main_v2 : IVec S3x4096x4096 1 := cmpf .olt main_v0 main_v1
  let main_v3 : FVec F S4096x16 .f32 := Host.absf main_arg3
  let main_cst_0 : FVec F S_ .f32 := constant S_ .f32 0x7F800000#32
  let main_v4 : FVec F S4096x16 .f32 := broadcastInDim S4096x16 ![] bcast_S_S4096x16 main_cst_0
  let main_v5 : IVec S4096x16 1 := cmpf .olt main_v3 main_v4
  (main_v2, main_v5)
-- ==== Kernel.lean ====
abbrev S4096x3x128 : Shape := ⟨3, ![4096, 3, 128]⟩
abbrev S3x4096x4096 : Shape := ⟨3, ![3, 4096, 4096]⟩
abbrev S16x16 : Shape := ⟨2, ![16, 16]⟩
abbrev S4096x16 : Shape := ⟨2, ![4096, 16]⟩
abbrev S128x128 : Shape := ⟨2, ![128, 128]⟩
abbrev S128 : Shape := ⟨1, ![128]⟩
abbrev S128x16 : Shape := ⟨2, ![128, 16]⟩
abbrev S16 : Shape := ⟨1, ![16]⟩
abbrev S4096x1x128 : Shape := ⟨3, ![4096, 1, 128]⟩
abbrev S4096x128 : Shape := ⟨2, ![4096, 128]⟩
abbrev S1x128 : Shape := ⟨2, ![1, 128]⟩
abbrev S1x16 : Shape := ⟨2, ![1, 16]⟩
abbrev S3x128x4096 : Shape := ⟨3, ![3, 128, 4096]⟩
abbrev S4096x4096 : Shape := ⟨2, ![4096, 4096]⟩
abbrev S16x4096 : Shape := ⟨2, ![16, 4096]⟩
abbrev S128x4096 : Shape := ⟨2, ![128, 4096]⟩
abbrev S1x128x4096 : Shape := ⟨3, ![1, 128, 4096]⟩
abbrev S16x128 : Shape := ⟨2, ![16, 128]⟩
abbrev S128x2048 : Shape := ⟨2, ![128, 2048]⟩
abbrev S16x2048 : Shape := ⟨2, ![16, 2048]⟩
abbrev S128x1 : Shape := ⟨2, ![128, 1]⟩

abbrev nBuf : Space → Nat
  | .hbm => 13
  | .vmem => 16
  | .smem => 0
  | _ => 0

abbrev bufTy : (tb : Table) → Fin (tcTables nBuf tb) → BufTy
  | .hbm, ⟨0, _⟩ => ⟨S4096x3x128, .f32⟩
  | .hbm, ⟨1, _⟩ => ⟨S3x4096x4096, .f32⟩
  | .hbm, ⟨2, _⟩ => ⟨S16x16, .f32⟩
  | .hbm, ⟨3, _⟩ => ⟨S4096x16, .f32⟩
  | .hbm, ⟨4, _⟩ => ⟨S128x128, .f32⟩
  | .hbm, ⟨5, _⟩ => ⟨S128, .f32⟩
  | .hbm, ⟨6, _⟩ => ⟨S128x16, .f32⟩
  | .hbm, ⟨7, _⟩ => ⟨S16, .f32⟩
  | .hbm, ⟨8, _⟩ => ⟨S4096x1x128, .f32⟩
  | .hbm, ⟨9, _⟩ => ⟨S4096x128, .f32⟩
  | .hbm, ⟨10, _⟩ => ⟨S1x128, .f32⟩
  | .hbm, ⟨11, _⟩ => ⟨S1x16, .f32⟩
  | .hbm, ⟨12, _⟩ => ⟨S4096x16, .f32⟩
  | .local _ .vmem, ⟨0, _⟩ => ⟨S3x128x4096, .f32⟩
  | .local _ .vmem, ⟨1, _⟩ => ⟨S3x128x4096, .f32⟩
  | .local _ .vmem, ⟨2, _⟩ => ⟨S128x16, .f32⟩
  | .local _ .vmem, ⟨3, _⟩ => ⟨S128x16, .f32⟩
  | .local _ .vmem, ⟨4, _⟩ => ⟨S4096x16, .f32⟩
  | .local _ .vmem, ⟨5, _⟩ => ⟨S16x16, .f32⟩
  | .local _ .vmem, ⟨6, _⟩ => ⟨S4096x128, .f32⟩
  | .local _ .vmem, ⟨7, _⟩ => ⟨S128x128, .f32⟩
  | .local _ .vmem, ⟨8, _⟩ => ⟨S1x128, .f32⟩
  | .local _ .vmem, ⟨9, _⟩ => ⟨S128x16, .f32⟩
  | .local _ .vmem, ⟨10, _⟩ => ⟨S1x16, .f32⟩
  | .local _ .vmem, ⟨11, _⟩ => ⟨S4096x16, .f32⟩
  | .local _ .vmem, ⟨12, _⟩ => ⟨S4096x4096, .i16⟩
  | .local _ .vmem, ⟨13, _⟩ => ⟨S4096x128, .f32⟩
  | .local _ .vmem, ⟨14, _⟩ => ⟨S16x4096, .f32⟩
  | .local _ .vmem, ⟨15, _⟩ => ⟨S4096x16, .f32⟩
  | _, _ => ⟨S4096x3x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11

abbrev nD : Nat := 1
abbrev τ : Topo := Topo.v7x

variable {F : FTy → Type} [FloatOps F]

abbrev grid0 : Pipeline.Grid := ⟨1, ![32], ![false]⟩

def k0_off1 (i : grid0.Coords) : Fin 2 → Nat :=
  let arg0 : BitVec 32 := BitVec.ofNat 32 (i 0).val
  let c128_i32 : BitVec 32 := 128#32
  let v29 : BitVec 32 := Scalar.muli arg0 c128_i32
  let v30 : Index := Scalar.indexCast v29
  let c0_18 : Index := 0#32
  ![v30.toNat, 0]
def k0_off2 (i : grid0.Coords) : Fin 2 → Nat :=
  let c0_29 : Index := 0#32
  let arg0 : BitVec 32 := BitVec.ofNat 32 (i 0).val
  let c128_i32_28 : BitVec 32 := 128#32
  let v45 : BitVec 32 := Scalar.muli arg0 c128_i32_28
  let v46 : Index := Scalar.indexCast v45
  ![0, v46.toNat]
def k0_cond2 (i : grid0.Coords) : BitVec 1 :=
  let arg0 : BitVec 32 := BitVec.ofNat 32 (i 0).val
  let c16_i32 : BitVec 32 := 16#32
  let v50 : BitVec 1 := Scalar.cmpi .sge arg0 c16_i32
  let v51 : BitVec 32 := Scalar.extui v50
  let c0_i32_30 : BitVec 32 := 0#32
  let v52 : BitVec 1 := Scalar.cmpi .ne v51 c0_i32_30
  v52

def k0_off3 (i : grid0.Coords) : Fin 2 → Nat :=
  let arg0 : BitVec 32 := BitVec.ofNat 32 (i 0).val
  let c16_i32_32 : BitVec 32 := 16#32
  let v56 : BitVec 32 := Scalar.subi arg0 c16_i32_32
  let c128_i32_33 : BitVec 32 := 128#32
  let v57 : BitVec 32 := Scalar.muli v56 c128_i32_33
  let v58 : Index := Scalar.indexCast v57
  let c0_34 : Index := 0#32
  ![v58.toNat, 0]
def k0_off4 (i : grid0.Coords) : Fin 2 → Nat :=
  let arg0 : BitVec 32 := BitVec.ofNat 32 (i 0).val
  let c16_i32_32 : BitVec 32 := 16#32
  let v56 : BitVec 32 := Scalar.subi arg0 c16_i32_32
  let c128_i32_35 : BitVec 32 := 128#32
  let v61 : BitVec 32 := Scalar.muli v56 c128_i32_35
  let v62 : Index := Scalar.indexCast v61
  let c0_36 : Index := 0#32
  ![v62.toNat, 0]
def k0_cond3 (i : grid0.Coords) : BitVec 1 :=
  let arg0 : BitVec 32 := BitVec.ofNat 32 (i 0).val
  let c31_i32 : BitVec 32 := 31#32
  let v53 : BitVec 1 := Scalar.cmpi .eq arg0 c31_i32
  let v54 : BitVec 32 := Scalar.extui v53
  let c0_i32_31 : BitVec 32 := 0#32
  let v55 : BitVec 1 := Scalar.cmpi .ne v54 c0_i32_31
  v55

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S3x128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4096x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4096x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x16 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x16 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S4096x16 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== KernelIdeal.lean ====
variable {F : FTy → Type} [FloatOps F] [Named F]
def κ : String → Option EReal := fun
  | "inv_scale" => some ((1 / 32767 : ℝ) : EReal)
  | _ => none
-- ==== ReferenceIdeal.lean ====
abbrev S4096x3x128 : Shape := ⟨3, ![4096, 3, 128]⟩
abbrev S3x4096x4096 : Shape := ⟨3, ![3, 4096, 4096]⟩
abbrev S16x16 : Shape := ⟨2, ![16, 16]⟩
abbrev S4096x16 : Shape := ⟨2, ![4096, 16]⟩
abbrev S128x128 : Shape := ⟨2, ![128, 128]⟩
abbrev S128 : Shape := ⟨1, ![128]⟩
abbrev S128x16 : Shape := ⟨2, ![128, 16]⟩
abbrev S16 : Shape := ⟨1, ![16]⟩
abbrev S_ : Shape := ⟨0, ![]⟩
abbrev S16x4096 : Shape := ⟨2, ![16, 4096]⟩
abbrev S4096x4096 : Shape := ⟨2, ![4096, 4096]⟩
abbrev S1x4096x4096 : Shape := ⟨3, ![1, 4096, 4096]⟩
abbrev S4096x1x128 : Shape := ⟨3, ![4096, 1, 128]⟩
abbrev S4096x128 : Shape := ⟨2, ![4096, 128]⟩
abbrev S1x128 : Shape := ⟨2, ![1, 128]⟩
abbrev S1x16 : Shape := ⟨2, ![1, 16]⟩
abbrev S4096 : Shape := ⟨1, ![4096]⟩
abbrev S4096x1 : Shape := ⟨2, ![4096, 1]⟩

abbrev nBuf : Space → Nat
  | .hbm => 85
  | .vmem => 0
  | .smem => 0
  | _ => 0

abbrev bufTy : (tb : Table) → Fin (tcTables nBuf tb) → BufTy
  | .hbm, ⟨0, _⟩ => ⟨S4096x3x128, .f32⟩
  | .hbm, ⟨1, _⟩ => ⟨S3x4096x4096, .f32⟩
  | .hbm, ⟨2, _⟩ => ⟨S16x16, .f32⟩
  | .hbm, ⟨3, _⟩ => ⟨S4096x16, .f32⟩
  | .hbm, ⟨4, _⟩ => ⟨S128x128, .f32⟩
  | .hbm, ⟨5, _⟩ => ⟨S128, .f32⟩
  | .hbm, ⟨6, _⟩ => ⟨S128x16, .f32⟩
  | .hbm, ⟨7, _⟩ => ⟨S16, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S16x16, .f32⟩
  | .hbm, ⟨12, _⟩ => ⟨S16x16, .f32⟩
  | .hbm, ⟨13, _⟩ => ⟨S_, .f32⟩
  | .hbm, ⟨14, _⟩ => ⟨S16x16, .f32⟩
  | .hbm, ⟨15, _⟩ => ⟨S16x16, .f32⟩
  | .hbm, ⟨16, _⟩ => ⟨S4096x16, .f32⟩
  | .hbm, ⟨17, _⟩ => ⟨S16x4096, .f32⟩
  | .hbm, ⟨18, _⟩ => ⟨S4096x4096, .f32⟩
  | .hbm, ⟨19, _⟩ => ⟨S1x4096x4096, .f32⟩
  | .hbm, ⟨20, _⟩ => ⟨S4096x4096, .f32⟩
  | .hbm, ⟨21, _⟩ => ⟨S_, .f32⟩
  | .hbm, ⟨22, _⟩ => ⟨S4096x4096, .f32⟩
  | .hbm, ⟨23, _⟩ => ⟨S4096x4096, .f32⟩
  | .hbm, ⟨24, _⟩ => ⟨S4096x4096, .f32⟩
  | .hbm, ⟨25, _⟩ => ⟨S1x4096x4096, .f32⟩
  | .hbm, ⟨26, _⟩ => ⟨S4096x4096, .f32⟩
  | .hbm, ⟨27, _⟩ => ⟨S4096x4096, .f32⟩
  | .hbm, ⟨28, _⟩ => ⟨S4096x4096, .f32⟩
  | .hbm, ⟨29, _⟩ => ⟨S_, .f32⟩
  | .hbm, ⟨30, _⟩ => ⟨S4096x4096, .f32⟩
  | .hbm, ⟨31, _⟩ => ⟨S4096x4096, .f32⟩
  | .hbm, ⟨32, _⟩ => ⟨S4096x4096, .f32⟩
  | .hbm, ⟨33, _⟩ => ⟨S1x4096x4096, .f32⟩
  | .hbm, ⟨34, _⟩ => ⟨S4096x4096, .f32⟩
  | .hbm, ⟨35, _⟩ => ⟨S4096x4096, .f32⟩
  | .hbm, ⟨36, _⟩ => ⟨S4096x4096, .f32⟩
  | .hbm, ⟨37, _⟩ => ⟨S4096x1x128, .f32⟩
  | .hbm, ⟨38, _⟩ => ⟨S4096x128, .f32⟩
  | .hbm, ⟨39, _⟩ => ⟨S4096x128, .f32⟩
  | .hbm, ⟨40, _⟩ => ⟨S4096x128, .f32⟩
  | .hbm, ⟨41, _⟩ => ⟨S1x128, .f32⟩
  | .hbm, ⟨42, _⟩ => ⟨S4096x128, .f32⟩
  | .hbm, ⟨43, _⟩ => ⟨S4096x128, .f32⟩
  | .hbm, ⟨44, _⟩ => ⟨S_, .f32⟩
  | .hbm, ⟨45, _⟩ => ⟨S4096x128, .f32⟩
  | .hbm, ⟨46, _⟩ => ⟨S4096x128, .f32⟩
  | .hbm, ⟨47, _⟩ => ⟨S_, .f32⟩
  | .hbm, ⟨48, _⟩ => ⟨S4096x4096, .f32⟩
  | .hbm, ⟨49, _⟩ => ⟨S4096x4096, .f32⟩
  | .hbm, ⟨50, _⟩ => ⟨S_, .f32⟩
  | .hbm, ⟨51, _⟩ => ⟨S4096x4096, .f32⟩
  | .hbm, ⟨52, _⟩ => ⟨S4096x4096, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S4096x4096, .f32⟩
  | .hbm, ⟨57, _⟩ => ⟨S4096x4096, .f32⟩
  | .hbm, ⟨58, _⟩ => ⟨S_, .f32⟩
  | .hbm, ⟨59, _⟩ => ⟨S4096x4096, .f32⟩
  | .hbm, ⟨60, _⟩ => ⟨S4096x4096, .f32⟩
  | .hbm, ⟨61, _⟩ => ⟨S4096x4096, .i32⟩
  | .hbm, ⟨62, _⟩ => ⟨S4096x4096, .f32⟩
  | .hbm, ⟨63, _⟩ => ⟨S_, .f32⟩
  | .hbm, ⟨64, _⟩ => ⟨S4096x4096, .f32⟩
  | .hbm, ⟨65, _⟩ => ⟨S4096x4096, .f32⟩
  | .hbm, ⟨66, _⟩ => ⟨S4096x16, .f32⟩
  | .hbm, ⟨67, _⟩ => ⟨S4096x16, .f32⟩
  | .hbm, ⟨68, _⟩ => ⟨S1x16, .f32⟩
  | .hbm, ⟨69, _⟩ => ⟨S4096x16, .f32⟩
  | .hbm, ⟨70, _⟩ => ⟨S4096x16, .f32⟩
  | .hbm, ⟨71, _⟩ => ⟨S_, .f32⟩
  | .hbm, ⟨72, _⟩ => ⟨S4096, .f32⟩
  | .hbm, ⟨73, _⟩ => ⟨S_, .f32⟩
  | .hbm, ⟨74, _⟩ => ⟨S4096, .f32⟩
  | .hbm, ⟨75, _⟩ => ⟨S4096, .f32⟩
  | .hbm, ⟨76, _⟩ => ⟨S4096x1, .f32⟩
  | .hbm, ⟨77, _⟩ => ⟨S4096x16, .f32⟩
  | .hbm, ⟨78, _⟩ => ⟨S4096x16, .f32⟩
  | .hbm, ⟨79, _⟩ => ⟨S4096x16, .f32⟩
  | .hbm, ⟨80, _⟩ => ⟨S_, .f32⟩
  | .hbm, ⟨81, _⟩ => ⟨S4096, .f32⟩
  | .hbm, ⟨82, _⟩ => ⟨S4096x1, .f32⟩
  | .hbm, ⟨83, _⟩ => ⟨S4096x16, .f32⟩
  | .hbm, ⟨84, _⟩ => ⟨S4096x16, .f32⟩
  | _, _ => ⟨S4096x3x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_cst_0 : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_cst_1 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_cst_2 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_call1_cst : Ref sig .tc := ⟨.hbm, 44, rfl⟩
abbrev main_call1_v0 : Ref sig .tc := ⟨.hbm, 45, rfl⟩
abbrev main_v27 : Ref sig .tc := ⟨.hbm, 46, rfl⟩
abbrev main_cst_3 : Ref sig .tc := ⟨.hbm, 47, rfl⟩
abbrev main_v28 : Ref sig .tc := ⟨.hbm, 48, rfl⟩
abbrev main_v29 : Ref sig .tc := ⟨.hbm, 49, rfl⟩
abbrev main_cst_4 : Ref sig .tc := ⟨.hbm, 50, rfl⟩
abbrev main_v30 : Ref sig .tc := ⟨.hbm, 51, rfl⟩
abbrev main_v31 : Ref sig .tc := ⟨.hbm, 52, rfl⟩
abbrev main_cst_5 : Ref sig .tc := ⟨.hbm, 53, rfl⟩
abbrev main_cst_6 : Ref sig .tc := ⟨.hbm, 54, rfl⟩
abbrev main_call2_v0 : Ref sig .tc := ⟨.hbm, 55, rfl⟩
abbrev main_call2_v1 : Ref sig .tc := ⟨.hbm, 56, rfl⟩
abbrev main_call2_v2 : Ref sig .tc := ⟨.hbm, 57, rfl⟩
abbrev main_call2_v3 : Ref sig .tc := ⟨.hbm, 58, rfl⟩
abbrev main_call2_v4 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_cst_7 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_cst_8 : Ref sig .tc := ⟨.hbm, 71, rfl⟩
abbrev main_v42 : Ref sig .tc := ⟨.hbm, 72, rfl⟩
abbrev main_cst_9 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_cst_10 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩

abbrev nD : Nat := 1
abbrev τ : Topo := Topo.v7x

variable {F : FTy → Type} [FloatOps F]
-- ==== Proof.KI.Tail.lean ====
/- The last grid point's second part, on its own. When the whole adjacency has been stored, the kernel computes the
   output block row by row from the stored words, the projected second-layer features and the partial sums. It only
   reads the scratches, so it is run here over any contents of them. -/
module

public import proofs.«01_k».proof.Proof.Gen.KernelIdeal.Frame
public import proofs.«01_k».proof.Proof.Gen.KernelIdeal.Skeleton
public import Idealize.ShloMosaic.Lib.VecWindow
public import Idealize.ShloMosaic.Lib.Pipeline.ReadBack
public import Idealize.ShloMosaic.Lib.Pipeline.ValueKit

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- What the kernel does at the last point after its common part. -/
def tailProg (i : grid0.Coords) (arg1 : Memref sig .tc .vmem S3x128x4096 .f32) (harg1 : arg1.IsWhole) (arg2 : Memref sig .tc .vmem S128x16 .f32) (harg2 : arg2.IsWhole) (arg3 : Memref sig .tc .vmem S4096x16 .f32) (harg3 : arg3.IsWhole) (arg4 : Memref sig .tc .vmem S16x16 .f32) (harg4 : arg4.IsWhole) (arg5 : Memref sig .tc .vmem S4096x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S128x16 .f32) (harg8 : arg8.IsWhole) (arg9 : Memref sig .tc .vmem S1x16 .f32) (harg9 : arg9.IsWhole) (arg10 : Memref sig .tc .vmem S4096x16 .f32) (harg10 : arg10.IsWhole) (arg11 : Memref sig .tc .vmem S4096x4096 .i16) (harg11 : arg11.IsWhole) (arg12 : Memref sig .tc .vmem S4096x128 .f32) (harg12 : arg12.IsWhole) (arg13 : Memref sig .tc .vmem S16x4096 .f32) (harg13 : arg13.IsWhole) (arg14 : Memref sig .tc .vmem S4096x16 .f32) (harg14 : arg14.IsWhole) :
    Prog (TpuEff nD τ sig (Elt F) Λ₀ .tc) PUnit := do
  let v89 : FVec F S128x16 .f32 ← k0_part1 i arg1 harg1 arg2 harg2 arg3 harg3 arg4 harg4 arg5 harg5 arg6 harg6 arg7 harg7 arg8 harg8 arg9 harg9 arg10 harg10 arg11 harg11 arg12 harg12 arg13 harg13 arg14 harg14
  let v125 : FVec F S128x16 .f32 ← k0_part2 i arg1 harg1 arg2 harg2 arg3 harg3 arg4 harg4 arg5 harg5 arg6 harg6 arg7 harg7 arg8 harg8 arg9 harg9 arg10 harg10 arg11 harg11 arg12 harg12 arg13 harg13 arg14 harg14 v89
  let ⟨v160, v163⟩ : Σ' (v160 : FVec F S128x16 .f32), FVec F S128x16 .f32 ← k0_part3 i arg1 harg1 arg2 harg2 arg3 harg3 arg4 harg4 arg5 harg5 arg6 harg6 arg7 harg7 arg8 harg8 arg9 harg9 arg10 harg10 arg11 harg11 arg12 harg12 arg13 harg13 arg14 harg14 v125
  let v195 : FVec F S128x16 .f32 ← k0_part4 i arg1 harg1 arg2 harg2 arg3 harg3 arg4 harg4 arg5 harg5 arg6 harg6 arg7 harg7 arg8 harg8 arg9 harg9 arg10 harg10 arg11 harg11 arg12 harg12 arg13 harg13 arg14 harg14 v160 v163
  let v233 : FVec F S128x2048 .f32 ← k0_part5 i arg1 harg1 arg2 harg2 arg3 harg3 arg4 harg4 arg5 harg5 arg6 harg6 arg7 harg7 arg8 harg8 arg9 harg9 arg10 harg10 arg11 harg11 arg12 harg12 arg13 harg13 arg14 harg14 v195
  let v269 : FVec F S128x16 .f32 ← k0_part6 i arg1 harg1 arg2 harg2 arg3 harg3 arg4 harg4 arg5 harg5 arg6 harg6 arg7 harg7 arg8 harg8 arg9 harg9 arg10 harg10 arg11 harg11 arg12 harg12 arg13 harg13 arg14 harg14 v233
  let v303 : FVec F S128x16 .f32 ← k0_part7 i arg1 harg1 arg2 harg2 arg3 harg3 arg4 harg4 arg5 harg5 arg6 harg6 arg7 harg7 arg8 harg8 arg9 harg9 arg10 harg10 arg11 harg11 arg12 harg12 arg13 harg13 arg14 harg14 v269
  let v340 : FVec F S128x16 .f32 ← k0_part8 i arg1 harg1 arg2 harg2 arg3 harg3 arg4 harg4 arg5 harg5 arg6 harg6 arg7 harg7 arg8 harg8 arg9 harg9 arg10 harg10 arg11 harg11 arg12 harg12 arg13 harg13 arg14 harg14 v303
  let v375 : FVec F S128x16 .f32 ← k0_part9 i arg1 harg1 arg2 harg2 arg3 harg3 arg4 harg4 arg5 harg5 arg6 harg6 arg7 harg7 arg8 harg8 arg9 harg9 arg10 harg10 arg11 harg11 arg12 harg12 arg13 harg13 arg14 harg14 v340
  let ⟨v409, v410, cst_244⟩ : Σ' (v409 : FVec F S128x4096 .f32) (v410 : Vec F S16x4096 .f32), FVec F S128x16 .f32 ← k0_part10 i arg1 harg1 arg2 harg2 arg3 harg3 arg4 harg4 arg5 harg5 arg6 harg6 arg7 harg7 arg8 harg8 arg9 harg9 arg10 harg10 arg11 harg11 arg12 harg12 arg13 harg13 arg14 harg14 v375
  k0_part11 i arg1 harg1 arg2 harg2 arg3 harg3 arg4 harg4 arg5 harg5 arg6 harg6 arg7 harg7 arg8 harg8 arg9 harg9 arg10 harg10 arg11 harg11 arg12 harg12 arg13 harg13 arg14 harg14 v409 v410 cst_244
  let v486 : FVec F S128x16 .f32 ← k0_part12 i arg1 harg1 arg2 harg2 arg3 harg3 arg4 harg4 arg5 harg5 arg6 harg6 arg7 harg7 arg8 harg8 arg9 harg9 arg10 harg10 arg11 harg11 arg12 harg12 arg13 harg13 arg14 harg14
  let v521 : FVec F S128x16 .f32 ← k0_part13 i arg1 harg1 arg2 harg2 arg3 harg3 arg4 harg4 arg5 harg5 arg6 harg6 arg7 harg7 arg8 harg8 arg9 harg9 arg10 harg10 arg11 harg11 arg12 harg12 arg13 harg13 arg14 harg14 v486
  let ⟨v553, v556⟩ : Σ' (v553 : FVec F S128x16 .f32), FVec F S128x16 .f32 ← k0_part14 i arg1 harg1 arg2 harg2 arg3 harg3 arg4 harg4 arg5 harg5 arg6 harg6 arg7 harg7 arg8 harg8 arg9 harg9 arg10 harg10 arg11 harg11 arg12 harg12 arg13 harg13 arg14 harg14 v521
  let ⟨v591, v592⟩ : Σ' (v591 : FVec F S128x16 .f32), FVec F S128x16 .f32 ← k0_part15 i arg1 harg1 arg2 harg2 arg3 harg3 arg4 harg4 arg5 harg5 arg6 harg6 arg7 harg7 arg8 harg8 arg9 harg9 arg10 harg10 arg11 harg11 arg12 harg12 arg13 harg13 arg14 harg14 v553 v556
  let v629 : FVec F S128x4096 .f32 ← k0_part16 i arg1 harg1 arg2 harg2 arg3 harg3 arg4 harg4 arg5 harg5 arg6 harg6 arg7 harg7 arg8 harg8 arg9 harg9 arg10 harg10 arg11 harg11 arg12 harg12 arg13 harg13 arg14 harg14 v591 v592
  let v666 : FVec F S128x16 .f32 ← k0_part17 i arg1 harg1 arg2 harg2 arg3 harg3 arg4 harg4 arg5 harg5 arg6 harg6 arg7 harg7 arg8 harg8 arg9 harg9 arg10 harg10 arg11 harg11 arg12 harg12 arg13 harg13 arg14 harg14 v629
  let ⟨v702, v703⟩ : Σ' (v702 : FVec F S128x16 .f32), FVec F S128 .f32 ← k0_part18 i arg1 harg1 arg2 harg2 arg3 harg3 arg4 harg4 arg5 harg5 arg6 harg6 arg7 harg7 arg8 harg8 arg9 harg9 arg10 harg10 arg11 harg11 arg12 harg12 arg13 harg13 arg14 harg14 v666
  let v707 : Vec F S128x16 .f32 ← Prog.lift (.load arg10 (Rect.unit (s := S4096x16) ![3840, 0] S128x16.size inb_S4096x16_S128x16_3840_0).toLoadRect (View.loadsAt_vmem h_S128x16))
  Prog.lift (.store arg10 (Rect.unit (s := S4096x16) ![3840, 0] S128x16.size inb_S4096x16_S128x16_3840_0) (k0_pay4 v702 v703) Finset.univ (View.stores_vmem_bits_univ h_S128x16 rfl) (.inl rfl))
  let v708 : Vec F S128x4096 .i16 ← Prog.lift (.load arg11 (Rect.unit (s := S4096x4096) ![3968, 0] S128x4096.size inb_S4096x4096_S128x4096_3968_0).toLoadRect (View.loadsAt_vmem h_S128x4096))
  let v710 : Vec F S16x4096 .f32 ← Prog.lift (.load arg13 (Rect.unit (s := S16x4096) ![0, 0] S16x4096.size inb_S16x4096_S16x4096_0_0).toLoadRect (View.loadsAt_vmem h_S16x4096))
  let v714 : Vec F S1x16 .f32 ← Prog.lift (.load arg9 (Rect.unit (s := S1x16) ![0, 0] S1x16.size inb_S1x16_S1x16_0_0).toLoadRect (View.loadsAt_vmem h_S1x16))
  let v727 : Vec F S128x16 .f32 ← Prog.lift (.load arg10 (Rect.unit (s := S4096x16) ![3968, 0] S128x16.size inb_S4096x16_S128x16_3968_0).toLoadRect (View.loadsAt_vmem h_S128x16))
  Prog.lift (.store arg10 (Rect.unit (s := S4096x16) ![3968, 0] S128x16.size inb_S4096x16_S128x16_3968_0) (k0_pay5 v708 v710 v714) Finset.univ (View.stores_vmem_bits_univ h_S128x16 rfl) (.inl rfl))

/-- A block of 128 output rows whose first half of the product was summed before: from the second half of the
    stored words, the matching features, the partial sums and the bias. -/
def rowLo (q : Vec F S128x2048 .i16) (z : Vec F S16x2048 .f32) (l : Vec F S128x16 .f32) (b : Vec F S1x16 .f32) : Vec F S128x16 .f32 :=
  k0_pay6 q z l b

/-- A block of 128 output rows computed from all the stored words of its rows. -/
def rowHi (q : Vec F S128x4096 .i16) (z : Vec F S16x4096 .f32) (b : Vec F S1x16 .f32) : Vec F S128x16 .f32 :=
  k0_pay5 q z b

theorem rows_inb {n p w : ℕ} (r : ℕ) (o : ℕ) (hr : 128 * r + 128 ≤ n) (ho : o + w ≤ p) :
    ∀ a : Fin 2, (![128 * r, o] : Fin 2 → ℕ) a + (![128, w] : Fin 2 → ℕ) a ≤ (![n, p] : Fin 2 → ℕ) a := by
  intro a; fin_cases a
  · exact hr
  · exact ho

/-- Rows `128 r` to `128 r + 127` of the output, for `r` below 16. -/
def loAt (A : Vec F S4096x4096 .i16) (Z : Vec F S16x4096 .f32) (L : Vec F S4096x16 .f32) (b : Vec F S1x16 .f32) (r : ℕ) (hr : r < 16) : Vec F S128x16 .f32 :=
  rowLo (VecWindow.window (s := S4096x4096) A ![128 * r, 2048] S128x2048.size (rows_inb r 2048 (by omega) (by omega)))
    (VecWindow.window (s := S16x4096) Z ![0, 2048] S16x2048.size inb_S16x4096_S16x2048_0_2048)
    (VecWindow.window (s := S4096x16) L ![128 * r, 0] S128x16.size (rows_inb r 0 (by omega) (by omega))) b

/-- Rows `128 r` to `128 r + 127` of the output, for the other `r`. -/
def hiAt (A : Vec F S4096x4096 .i16) (Z : Vec F S16x4096 .f32) (b : Vec F S1x16 .f32) (r : ℕ) (hr : r < 32) : Vec F S128x16 .f32 :=
  rowHi (VecWindow.window (s := S4096x4096) A ![128 * r, 0] S128x4096.size (rows_inb r 0 (by omega) (by omega))) Z b

/-- The output block, from what the scratches hold. -/
def outOf (A : Vec F S4096x4096 .i16) (Z : Vec F S16x4096 .f32) (L : Vec F S4096x16 .f32) (b : Vec F S1x16 .f32) : Vec F S4096x16 .f32 := fun y =>
  if h : (y 0).val / 128 < 16 then loAt A Z L b ((y 0).val / 128) h (ix2 (n0 := 128) (n1 := 16) ⟨(y 0).val % 128, Nat.mod_lt _ (by decide)⟩ (y 1))
  else hiAt A Z b ((y 0).val / 128) (by have := (y 0).isLt; have e : S4096x16.size 0 = 4096 := rfl; omega) (ix2 (n0 := 128) (n1 := 16) ⟨(y 0).val % 128, Nat.mod_lt _ (by decide)⟩ (y 1))

theorem emb_row (r : ℕ) (inb : ∀ a : Fin 2, (![128 * r, 0] : Fin 2 → ℕ) a + S128x16.size a ≤ S4096x16.size a) (x : S128x16.Idx) :
    (((Rect.unit (s := S4096x16) ![128 * r, 0] S128x16.size inb).emb x 0).val = 128 * r + (x 0).val)
      ∧ (((Rect.unit (s := S4096x16) ![128 * r, 0] S128x16.size inb).emb x 1) = x 1) := by
  constructor
  · show 128 * r + 1 * (x 0).val = _; omega
  · refine Fin.ext ?_; show 0 + 1 * (x 1).val = _; omega

theorem row_idx (x y : S128x16.Idx) (h0 : (y 0).val = (x 0).val) (h1 : y 1 = x 1) : y = x := by
  funext a; fin_cases a
  · exact Fin.ext h0
  · exact h1

theorem outOf_lo (A : Vec F S4096x4096 .i16) (Z : Vec F S16x4096 .f32) (L : Vec F S4096x16 .f32) (b : Vec F S1x16 .f32) (r : ℕ) (hr : r < 16)
    (inb : ∀ a : Fin 2, (![128 * r, 0] : Fin 2 → ℕ) a + S128x16.size a ≤ S4096x16.size a) (x : S128x16.Idx) :
    loAt A Z L b r hr x = outOf A Z L b ((Rect.unit (s := S4096x16) ![128 * r, 0] S128x16.size inb).emb x) := by
  obtain ⟨e0, e1⟩ := emb_row r inb x
  generalize (Rect.unit (s := S4096x16) ![128 * r, 0] S128x16.size inb).emb x = y at e0 e1
  have hx : (x 0).val < 128 := (x 0).isLt
  have hq : (y 0).val / 128 = r := by rw [e0]; omega
  subst hq
  rw [outOf, dif_pos hr]
  exact congrArg _ (row_idx _ _ (by show _ = (y 0).val % 128; omega) e1.symm)

theorem outOf_hi (A : Vec F S4096x4096 .i16) (Z : Vec F S16x4096 .f32) (L : Vec F S4096x16 .f32) (b : Vec F S1x16 .f32) (r : ℕ) (hr : r < 32) (hr' : ¬ r < 16)
    (inb : ∀ a : Fin 2, (![128 * r, 0] : Fin 2 → ℕ) a + S128x16.size a ≤ S4096x16.size a) (x : S128x16.Idx) :
    hiAt A Z b r hr x = outOf A Z L b ((Rect.unit (s := S4096x16) ![128 * r, 0] S128x16.size inb).emb x) := by
  obtain ⟨e0, e1⟩ := emb_row r inb x
  generalize (Rect.unit (s := S4096x16) ![128 * r, 0] S128x16.size inb).emb x = y at e0 e1
  have hx : (x 0).val < 128 := (x 0).isLt
  have hq : (y 0).val / 128 = r := by rw [e0]; omega
  subst hq
  rw [outOf, dif_neg hr']
  exact congrArg _ (row_idx _ _ (by show _ = (y 0).val % 128; omega) e1.symm)

section Same
/-! ## The rows are all computed the same way

The kernel's code is written out once per block of rows; each copy is the same function of its operands. -/

variable (q : Vec F S128x2048 .i16) (z : Vec F S16x2048 .f32) (l : Vec F S128x16 .f32) (b : Vec F S1x16 .f32) (q' : Vec F S128x4096 .i16) (z' : Vec F S16x4096 .f32)

theorem lo_1 : k0_pay8 (k0_pay7 q z l b) = k0_pay6 q z l b := rfl
theorem lo_2 : k0_pay9 q z l b = k0_pay6 q z l b := rfl
theorem lo_3 : k0_pay11 (k0_pay10 q z) l b = k0_pay6 q z l b := rfl
theorem lo_4 : k0_pay14 (k0_pay12 q z l b) (k0_pay13 q z l b) = k0_pay6 q z l b := rfl
theorem lo_5 : k0_pay15 q z l b = k0_pay6 q z l b := rfl
theorem lo_6 : k0_pay17 (k0_pay16 q z l) b = k0_pay6 q z l b := rfl
theorem lo_7 : k0_pay18 q z l b = k0_pay6 q z l b := rfl
theorem lo_8 : k0_pay20 (k0_pay19 q) z l b = k0_pay6 q z l b := rfl
theorem lo_9 : k0_pay22 (k0_pay21 q z l b) = k0_pay6 q z l b := rfl
theorem lo_10 : k0_pay23 q z l b = k0_pay6 q z l b := rfl
theorem lo_11 : k0_pay25 (k0_pay24 q z l) b = k0_pay6 q z l b := rfl
theorem lo_12 : k0_pay26 q z l b = k0_pay6 q z l b := rfl
theorem lo_13 : k0_pay27 q z l b = k0_pay6 q z l b := rfl
theorem lo_14 : k0_pay29 (k0_pay28 q z l b) = k0_pay6 q z l b := rfl
theorem lo_15 : k0_pay30 q z l b = k0_pay6 q z l b := rfl
theorem hi_16 : k0_pay32 (k0_pay31 q') z' (constant S128x16 .f32 0x00000000#32) b = k0_pay5 q' z' b := rfl
theorem hi_17 : k0_pay33 q' z' b = k0_pay5 q' z' b := rfl
theorem hi_18 : k0_pay34 q' z' b = k0_pay5 q' z' b := rfl
theorem hi_19 : k0_pay35 q' z' b = k0_pay5 q' z' b := rfl
theorem hi_20 : k0_pay36 q' z' b = k0_pay5 q' z' b := rfl
theorem hi_21 : k0_pay38 (k0_pay37 q' z' b) = k0_pay5 q' z' b := rfl
theorem hi_22 : k0_pay39 q' z' b = k0_pay5 q' z' b := rfl
theorem hi_23 : k0_pay42 (k0_pay40 q' z') (k0_pay41 b) = k0_pay5 q' z' b := rfl
theorem hi_24 : k0_pay43 q' z' b = k0_pay5 q' z' b := rfl
theorem hi_25 : k0_pay46 (k0_pay44 q' z') (k0_pay45 (F := F)) b = k0_pay5 q' z' b := rfl
theorem hi_26 : k0_pay47 q' z' b = k0_pay5 q' z' b := rfl
theorem hi_27 : k0_pay49 (k0_pay48 q') z' b = k0_pay5 q' z' b := rfl
theorem hi_28 : k0_pay50 q' z' b = k0_pay5 q' z' b := rfl
theorem hi_29 : k0_pay51 q' z' b = k0_pay5 q' z' b := rfl
theorem hi_30 : k0_pay4 (k0_pay52 q' z' b) (k0_pay53 q' z' b) = k0_pay5 q' z' b := rfl
end Same

theorem piece_lo (arg9 : Memref sig .tc .vmem S1x16 .f32) (arg11 : Memref sig .tc .vmem S4096x4096 .i16) (arg13 : Memref sig .tc .vmem S16x4096 .f32) (arg14 : Memref sig .tc .vmem S4096x16 .f32)
    (f9 : arg9.view.ty.Contents (Elt F)) (f11 : arg11.view.ty.Contents (Elt F)) (f13 : arg13.view.ty.Contents (Elt F)) (f14 : arg14.view.ty.Contents (Elt F))
    (r o : ℕ) (hr : r < 16) (ho : o = 128 * r) (w : Vec F S128x16 .f32)
    (i11 : ∀ a : Fin 2, (![o, 2048] : Fin 2 → ℕ) a + S128x2048.size a ≤ S4096x4096.size a) (i13 : ∀ a : Fin 2, (![0, 2048] : Fin 2 → ℕ) a + S16x2048.size a ≤ S16x4096.size a)
    (i14 inb : ∀ a : Fin 2, (![o, 0] : Fin 2 → ℕ) a + S128x16.size a ≤ S4096x16.size a) (i9 : ∀ a : Fin 2, (![0, 0] : Fin 2 → ℕ) a + S1x16.size a ≤ S1x16.size a)
    (hw : w = k0_pay6 (arg11.view.readAt (Elt F) (Rect.unit (s := S4096x4096) ![o, 2048] S128x2048.size i11).toLoadRect f11)
      (arg13.view.readAt (Elt F) (Rect.unit (s := S16x4096) ![0, 2048] S16x2048.size i13).toLoadRect f13)
      (arg14.view.readAt (Elt F) (Rect.unit (s := S4096x16) ![o, 0] S128x16.size i14).toLoadRect f14)
      (arg9.view.readAt (Elt F) (Rect.unit (s := S1x16) ![0, 0] S1x16.size i9).toLoadRect f9)) (x : S128x16.Idx) :
    w x = outOf (arg11.view.read (Elt F) f11) (arg13.view.read (Elt F) f13) (arg14.view.read (Elt F) f14) (arg9.view.read (Elt F) f9)
      ((Rect.unit (s := S4096x16) ![o, 0] S128x16.size inb).emb x) := by
  subst ho; subst hw
  rw [← outOf_lo _ _ _ _ r hr, loAt, rowLo]
  exact congrArg (fun b => k0_pay6 _ _ _ b x) (View.readAt_full arg9.view f9 i9)

theorem piece_hi (arg9 : Memref sig .tc .vmem S1x16 .f32) (arg11 : Memref sig .tc .vmem S4096x4096 .i16) (arg13 : Memref sig .tc .vmem S16x4096 .f32)
    (f9 : arg9.view.ty.Contents (Elt F)) (f11 : arg11.view.ty.Contents (Elt F)) (f13 : arg13.view.ty.Contents (Elt F)) (L : Vec F S4096x16 .f32)
    (r o : ℕ) (hr : r < 32) (hr' : ¬ r < 16) (ho : o = 128 * r) (w : Vec F S128x16 .f32)
    (i11 : ∀ a : Fin 2, (![o, 0] : Fin 2 → ℕ) a + S128x4096.size a ≤ S4096x4096.size a) (i13 : ∀ a : Fin 2, (![0, 0] : Fin 2 → ℕ) a + S16x4096.size a ≤ S16x4096.size a)
    (inb : ∀ a : Fin 2, (![o, 0] : Fin 2 → ℕ) a + S128x16.size a ≤ S4096x16.size a) (i9 : ∀ a : Fin 2, (![0, 0] : Fin 2 → ℕ) a + S1x16.size a ≤ S1x16.size a)
    (hw : w = k0_pay5 (arg11.view.readAt (Elt F) (Rect.unit (s := S4096x4096) ![o, 0] S128x4096.size i11).toLoadRect f11)
      (arg13.view.readAt (Elt F) (Rect.unit (s := S16x4096) ![0, 0] S16x4096.size i13).toLoadRect f13)
      (arg9.view.readAt (Elt F) (Rect.unit (s := S1x16) ![0, 0] S1x16.size i9).toLoadRect f9)) (x : S128x16.Idx) :
    w x = outOf (arg11.view.read (Elt F) f11) (arg13.view.read (Elt F) f13) L (arg9.view.read (Elt F) f9)
      ((Rect.unit (s := S4096x16) ![o, 0] S128x16.size inb).emb x) := by
  subst ho; subst hw
  rw [← outOf_hi _ _ L _ r hr hr', hiAt, rowHi]
  exact (congrArg (fun z => k0_pay5 _ z _ x) (View.readAt_full arg13.view f13 i13)).trans
    (congrArg (fun b => k0_pay5 _ _ b x) (View.readAt_full arg9.view f9 i9))

set_option maxHeartbeats 1600000 in
/-- The second part of the last point, run: the scratches are kept, and the output block is `outOf` of them. -/
theorem tail_run (c : Dev nD) (i : grid0.Coords) (arg1 : Memref sig .tc .vmem S3x128x4096 .f32) (harg1 : arg1.IsWhole) (arg2 : Memref sig .tc .vmem S128x16 .f32) (harg2 : arg2.IsWhole) (arg3 : Memref sig .tc .vmem S4096x16 .f32) (harg3 : arg3.IsWhole) (arg4 : Memref sig .tc .vmem S16x16 .f32) (harg4 : arg4.IsWhole) (arg5 : Memref sig .tc .vmem S4096x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S128x16 .f32) (harg8 : arg8.IsWhole) (arg9 : Memref sig .tc .vmem S1x16 .f32) (harg9 : arg9.IsWhole) (arg10 : Memref sig .tc .vmem S4096x16 .f32) (harg10 : arg10.IsWhole) (arg11 : Memref sig .tc .vmem S4096x4096 .i16) (harg11 : arg11.IsWhole) (arg12 : Memref sig .tc .vmem S4096x128 .f32) (harg12 : arg12.IsWhole) (arg13 : Memref sig .tc .vmem S16x4096 .f32) (harg13 : arg13.IsWhole) (arg14 : Memref sig .tc .vmem S4096x16 .f32) (harg14 : arg14.IsWhole)
    (b2 : Vec F S1x16 .f32) (A : Vec F S4096x4096 .i16) (Z : Vec F S16x4096 .f32) (L : Vec F S4096x16 .f32) (E : Set ℕ) (K : PUnit → sProp 𝕄) :
    iprop(owns (c : Thread nD τ) arg9 fullShare b2 ∗ (∃ d, owns (c : Thread nD τ) arg10 fullShare d) ∗ owns (c : Thread nD τ) arg11 fullShare A ∗ owns (c : Thread nD τ) arg13 fullShare Z ∗ owns (c : Thread nD τ) arg14 fullShare L
      ∗ (iprop(owns (c : Thread nD τ) arg9 fullShare b2 ∗ owns (c : Thread nD τ) arg10 fullShare (outOf A Z L b2) ∗ owns (c : Thread nD τ) arg11 fullShare A ∗ owns (c : Thread nD τ) arg13 fullShare Z ∗ owns (c : Thread nD τ) arg14 fullShare L) -∗ K ⟨⟩))
      ⊢ wp frame (wpE (defs₀ (F := F)) Variants.none c none) E (tailProg i arg1 harg1 arg2 harg2 arg3 harg3 arg4 harg4 arg5 harg5 arg6 harg6 arg7 harg7 arg8 harg8 arg9 harg9 arg10 harg10 arg11 harg11 arg12 harg12 arg13 harg13 arg14 harg14) K := by
  unfold tailProg
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton]
  unfold owns
  iintro ⟨⟨%f9, %hf9, H9⟩, ⟨%d10, %f10, -, H10⟩, ⟨%f11, %hf11, H11⟩, ⟨%f13, %hf13, H13⟩, ⟨%f14, %hf14, H14⟩, Hk⟩
  subst hf9; subst hf11; subst hf13; subst hf14
  sl_exec
  sl_step
  iapply Hk
  isplitl [H9]
  · iexists _; isplitr; · ipureintro; rfl
    iexact H9
  isplitl [H10]
  · iexists _; isplitr; swap; · iexact H10
    ipureintro
    refine funext fun y => ?_
    have hc := fun L h => View.cover_of_tiledL (Val := Elt F) (s := S4096x16) (e := .f32) L S128x16.size h y
    rw [View.read_writes_apply_eq_canon _ _ _ _ (hc _ (by sl_kernel_rfl))]
    refine View.canon_apply_of_pieces _ _ (View.PiecesOf.mem ?_) y (hc _ (by sl_kernel_rfl))
    exact ⟨piece_hi arg9 arg11 arg13 f9 f11 f13 _ 31 3968 (by decide) (by decide) rfl _ _ _ inb_S4096x16_S128x16_3968_0 _ (rfl),
      piece_hi arg9 arg11 arg13 f9 f11 f13 _ 30 3840 (by decide) (by decide) rfl _ _ _ inb_S4096x16_S128x16_3840_0 _ (hi_30 _ _ _),
      piece_hi arg9 arg11 arg13 f9 f11 f13 _ 29 3712 (by decide) (by decide) rfl _ _ _ inb_S4096x16_S128x16_3712_0 _ (hi_29 _ _ _),
      piece_hi arg9 arg11 arg13 f9 f11 f13 _ 28 3584 (by decide) (by decide) rfl _ _ _ inb_S4096x16_S128x16_3584_0 _ (hi_28 _ _ _),
      piece_hi arg9 arg11 arg13 f9 f11 f13 _ 27 3456 (by decide) (by decide) rfl _ _ _ inb_S4096x16_S128x16_3456_0 _ (hi_27 _ _ _),
      piece_hi arg9 arg11 arg13 f9 f11 f13 _ 26 3328 (by decide) (by decide) rfl _ _ _ inb_S4096x16_S128x16_3328_0 _ (hi_26 _ _ _),
      piece_hi arg9 arg11 arg13 f9 f11 f13 _ 25 3200 (by decide) (by decide) rfl _ _ _ inb_S4096x16_S128x16_3200_0 _ (hi_25 _ _ _),
      piece_hi arg9 arg11 arg13 f9 f11 f13 _ 24 3072 (by decide) (by decide) rfl _ _ _ inb_S4096x16_S128x16_3072_0 _ (hi_24 _ _ _),
      piece_hi arg9 arg11 arg13 f9 f11 f13 _ 23 2944 (by decide) (by decide) rfl _ _ _ inb_S4096x16_S128x16_2944_0 _ (hi_23 _ _ _),
      piece_hi arg9 arg11 arg13 f9 f11 f13 _ 22 2816 (by decide) (by decide) rfl _ _ _ inb_S4096x16_S128x16_2816_0 _ (hi_22 _ _ _),
      piece_hi arg9 arg11 arg13 f9 f11 f13 _ 21 2688 (by decide) (by decide) rfl _ _ _ inb_S4096x16_S128x16_2688_0 _ (hi_21 _ _ _),
      piece_hi arg9 arg11 arg13 f9 f11 f13 _ 20 2560 (by decide) (by decide) rfl _ _ _ inb_S4096x16_S128x16_2560_0 _ (hi_20 _ _ _),
      piece_hi arg9 arg11 arg13 f9 f11 f13 _ 19 2432 (by decide) (by decide) rfl _ _ _ inb_S4096x16_S128x16_2432_0 _ (hi_19 _ _ _),
      piece_hi arg9 arg11 arg13 f9 f11 f13 _ 18 2304 (by decide) (by decide) rfl _ _ _ inb_S4096x16_S128x16_2304_0 _ (hi_18 _ _ _),
      piece_hi arg9 arg11 arg13 f9 f11 f13 _ 17 2176 (by decide) (by decide) rfl _ _ _ inb_S4096x16_S128x16_2176_0 _ (hi_17 _ _ _),
      piece_hi arg9 arg11 arg13 f9 f11 f13 _ 16 2048 (by decide) (by decide) rfl _ _ _ inb_S4096x16_S128x16_2048_0 _ (hi_16 _ _ _),
      piece_lo arg9 arg11 arg13 arg14 f9 f11 f13 f14 15 1920 (by decide) rfl _ _ _ _ inb_S4096x16_S128x16_1920_0 _ (lo_15 _ _ _ _),
      piece_lo arg9 arg11 arg13 arg14 f9 f11 f13 f14 14 1792 (by decide) rfl _ _ _ _ inb_S4096x16_S128x16_1792_0 _ (lo_14 _ _ _ _),
      piece_lo arg9 arg11 arg13 arg14 f9 f11 f13 f14 13 1664 (by decide) rfl _ _ _ _ inb_S4096x16_S128x16_1664_0 _ (lo_13 _ _ _ _),
      piece_lo arg9 arg11 arg13 arg14 f9 f11 f13 f14 12 1536 (by decide) rfl _ _ _ _ inb_S4096x16_S128x16_1536_0 _ (lo_12 _ _ _ _),
      piece_lo arg9 arg11 arg13 arg14 f9 f11 f13 f14 11 1408 (by decide) rfl _ _ _ _ inb_S4096x16_S128x16_1408_0 _ (lo_11 _ _ _ _),
      piece_lo arg9 arg11 arg13 arg14 f9 f11 f13 f14 10 1280 (by decide) rfl _ _ _ _ inb_S4096x16_S128x16_1280_0 _ (lo_10 _ _ _ _),
      piece_lo arg9 arg11 arg13 arg14 f9 f11 f13 f14 9 1152 (by decide) rfl _ _ _ _ inb_S4096x16_S128x16_1152_0 _ (lo_9 _ _ _ _),
      piece_lo arg9 arg11 arg13 arg14 f9 f11 f13 f14 8 1024 (by decide) rfl _ _ _ _ inb_S4096x16_S128x16_1024_0 _ (lo_8 _ _ _ _),
      piece_lo arg9 arg11 arg13 arg14 f9 f11 f13 f14 7 896 (by decide) rfl _ _ _ _ inb_S4096x16_S128x16_896_0 _ (lo_7 _ _ _ _),
      piece_lo arg9 arg11 arg13 arg14 f9 f11 f13 f14 6 768 (by decide) rfl _ _ _ _ inb_S4096x16_S128x16_768_0 _ (lo_6 _ _ _ _),
      piece_lo arg9 arg11 arg13 arg14 f9 f11 f13 f14 5 640 (by decide) rfl _ _ _ _ inb_S4096x16_S128x16_640_0 _ (lo_5 _ _ _ _),
      piece_lo arg9 arg11 arg13 arg14 f9 f11 f13 f14 4 512 (by decide) rfl _ _ _ _ inb_S4096x16_S128x16_512_0 _ (lo_4 _ _ _ _),
      piece_lo arg9 arg11 arg13 arg14 f9 f11 f13 f14 3 384 (by decide) rfl _ _ _ _ inb_S4096x16_S128x16_384_0 _ (lo_3 _ _ _ _),
      piece_lo arg9 arg11 arg13 arg14 f9 f11 f13 f14 2 256 (by decide) rfl _ _ _ _ inb_S4096x16_S128x16_256_0 _ (lo_2 _ _ _ _),
      piece_lo arg9 arg11 arg13 arg14 f9 f11 f13 f14 1 128 (by decide) rfl _ _ _ _ inb_S4096x16_S128x16_128_0 _ (lo_1 _ _ _ _),
      piece_lo arg9 arg11 arg13 arg14 f9 f11 f13 f14 0 0 (by decide) rfl _ _ _ _ inb_S4096x16_S128x16_0_0 _ (rfl), trivial⟩
  isplitl [H11]
  · iexists _; isplitr; · ipureintro; rfl
    iexact H11
  isplitl [H13]
  · iexists _; isplitr; · ipureintro; rfl
    iexact H13
  iexists _; isplitr; · ipureintro; rfl
  iexact H14

end Cert.KernelIdeal.Own

end
-- ==== Proof.KI.Head.lean ====
/- One grid point of the kernel, over any contents of the scratches: what it leaves in each, as a function of what it
   found there and of the blocks it was given. -/
module

public import proofs.«01_k».proof.Proof.Gen.KernelIdeal.Frame
public import proofs.«01_k».proof.Proof.Gen.KernelIdeal.Skeleton
public import proofs.«01_k».proof.Proof.KI.Tail
public import Idealize.ShloMosaic.Lib.VecWindow
public import Idealize.ShloMosaic.Lib.Pipeline.ReadBack
public import Idealize.ShloMosaic.Lib.Pipeline.ValueKit

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

abbrev cond0 (i : grid0.Coords) : Prop := (Scalar.cmpi .ne (Scalar.extui (Scalar.cmpi .eq (BitVec.ofNat 32 (i 0).val) 0#32)) 0#32) = 1#1

theorem coord_lt (i : grid0.Coords) : (i 0).val < 32 := (i 0).isLt

theorem cond2_le : ∀ i : grid0.Coords, k0_cond2 i = 1#1 → 16 ≤ (i 0).val := by decide +kernel

theorem off1_eq : ∀ i : grid0.Coords, k0_off1 i = ![128 * (i 0).val, 0] := by decide +kernel

theorem off2_eq : ∀ i : grid0.Coords, k0_off2 i = ![0, 128 * (i 0).val] := by decide +kernel

theorem off3_eq : ∀ i : grid0.Coords, k0_cond2 i = 1#1 → k0_off3 i = ![128 * ((i 0).val - 16), 0] := by decide +kernel

theorem off4_eq : ∀ i : grid0.Coords, k0_cond2 i = 1#1 → k0_off4 i = ![128 * ((i 0).val - 16), 0] := by decide +kernel

instance closed_off1 (i : grid0.Coords) : ClosedOff (k0_off1 i) := ⟨![128 * (i 0).val, 0], off1_eq i⟩

instance closed_off2 (i : grid0.Coords) : ClosedOff (k0_off2 i) := ⟨![0, 128 * (i 0).val], off2_eq i⟩

instance closed_off3 (i : grid0.Coords) [h : Fact (k0_cond2 i = 1#1)] : ClosedOff (k0_off3 i) := ⟨![128 * ((i 0).val - 16), 0], off3_eq i h.out⟩

instance closed_off4 (i : grid0.Coords) [h : Fact (k0_cond2 i = 1#1)] : ClosedOff (k0_off4 i) := ⟨![128 * ((i 0).val - 16), 0], off4_eq i h.out⟩

/-- The window of a vector's own sizes is the vector. -/
theorem window_full {α : Type} {s : Shape} (x : s.Idx → α) {off : Fin s.rank → ℕ} (inb : ∀ a, off a + s.size a ≤ s.size a) :
    VecWindow.window (s := s) x off s.size inb = x := by
  funext y
  exact congrArg x (Rect.emb_unit_full inb y)

/-- A load apart from the only store reads what was there before. -/
theorem load_apart {sig : RefSig} {κ : Kind} {sp : Space} {s : Shape} {e : EltTy} {Val : EltTy → Type} (v : View sig κ sp s e) (f : v.ty.Contents Val)
    {off size off' size' : Fin s.rank → ℕ} (inb : ∀ a, off a + size a ≤ s.size a) (inb' : ∀ a, off' a + size' a ≤ s.size a)
    (w : (Rect.unit off size inb).shape.Idx → Val e) (a : Fin s.rank) (ha : off' a + size' a ≤ off a) :
    v.readAt Val (Rect.unit off' size' inb').toLoadRect (v.writes Val f [⟨Rect.unit off size inb, w⟩]) = v.readAt Val (Rect.unit off' size' inb').toLoadRect f := by
  rw [View.readAt_unit v _ inb' rfl inb', View.readAt_unit v _ inb' rfl inb', View.read_writes_cons_put v f inb w [] rfl,
    VecWindow.window_put_of_disjoint _ _ _ _ _ _ _ a (Or.inl ha), View.writes_nil]

theorem off31 (i : grid0.Coords) (h : k0_cond2 i = 1#1) : k0_off3 i 0 + ![128, 2048] 0 ≤ k0_off1 i 0 := by
  have := cond2_le i h
  rw [off3_eq i h, off1_eq]
  show 128 * ((i 0).val - 16) + 128 ≤ 128 * (i 0).val
  omega

theorem off02 (i : grid0.Coords) (h : k0_cond2 i = 1#1) : (![0, 0] : Fin 2 → ℕ) 1 + (![16, 2048] : Fin 2 → ℕ) 1 ≤ k0_off2 i 1 := by
  have := cond2_le i h
  rw [off2_eq]
  show 0 + 2048 ≤ 128 * (i 0).val
  omega

/-- One of the three adjacency planes of the block. -/
def plane (x1 : Vec F S3x128x4096 .f32) (k : ℕ) (hk : k < 3) : Vec F S1x128x4096 .f32 :=
  VecWindow.window (s := S3x128x4096) x1 ![k, 0, 0] S1x128x4096.size (fun a => by
    fin_cases a
    · show k + 1 ≤ 3; omega
    · show 0 + 128 ≤ 128; omega
    · show 0 + 4096 ≤ 4096; omega)

/-- The folded adjacency of a block of 128 rows. -/
def foldOf (x1 : Vec F S3x128x4096 .f32) (x2 : Vec F S128x16 .f32) (x3 : Vec F S4096x16 .f32) (x4 : Vec F S16x16 .f32) : FVec F S128x4096 .f32 :=
  k0_pay56 x4 x2 x3 (plane x1 0 (by decide)) (plane x1 1 (by decide)) (plane x1 2 (by decide))

/-- Its fixed-point words. -/
def wordOf (x1 : Vec F S3x128x4096 .f32) (x2 : Vec F S128x16 .f32) (x3 : Vec F S4096x16 .f32) (x4 : Vec F S16x16 .f32) : Vec F S128x4096 .i16 :=
  k0_pay1 (k0_pay57 x4 x2 x3 (plane x1 0 (by decide)) (plane x1 1 (by decide)) (plane x1 2 (by decide)))

/-- What a point leaves in the store of words. -/
def stepA (i : grid0.Coords) (w : Vec F S128x4096 .i16) (A : Vec F S4096x4096 .i16) : Vec F S4096x4096 .i16 :=
  VecWindow.put (s := S4096x4096) A (k0_off1 i) S128x4096.size w

/-- What it leaves in the store of projected second-layer features. -/
def stepZ (i : grid0.Coords) (p : FVec F S128x4096 .f32) (X : Vec F S4096x128 .f32) (x7 : Vec F S1x128 .f32) (x8 : Vec F S128x16 .f32) (Z : Vec F S16x4096 .f32) : Vec F S16x4096 .f32 :=
  VecWindow.put (s := S16x4096) Z (k0_off2 i) S16x128.size (k0_pay2 p X x7 x8)

/-- What a point of the second half leaves in the store of partial sums. -/
def stepL (i : grid0.Coords) (h : k0_cond2 i = 1#1) (A : Vec F S4096x4096 .i16) (Z : Vec F S16x4096 .f32) (L : Vec F S4096x16 .f32) : Vec F S4096x16 .f32 :=
  VecWindow.put (s := S4096x16) L (k0_off4 i) S128x16.size (k0_pay3 (VecWindow.window (s := S4096x4096) A (k0_off3 i) S128x2048.size (k0_off3_inb i h))
    (VecWindow.window (s := S4096x16) L (k0_off4 i) S128x16.size (k0_off4_inb i h)) (VecWindow.window (s := S16x4096) Z ![0, 0] S16x2048.size inb_S16x4096_S16x2048_0_0))

set_option maxRecDepth 65536 in
/-- The grid point with its last conditional part left open. -/
def bodyWith (i : grid0.Coords) (arg1 : Memref sig .tc .vmem S3x128x4096 .f32) (harg1 : arg1.IsWhole) (arg2 : Memref sig .tc .vmem S128x16 .f32) (harg2 : arg2.IsWhole) (arg3 : Memref sig .tc .vmem S4096x16 .f32) (harg3 : arg3.IsWhole) (arg4 : Memref sig .tc .vmem S16x16 .f32) (harg4 : arg4.IsWhole) (arg5 : Memref sig .tc .vmem S4096x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S128x16 .f32) (harg8 : arg8.IsWhole) (arg9 : Memref sig .tc .vmem S1x16 .f32) (harg9 : arg9.IsWhole) (arg10 : Memref sig .tc .vmem S4096x16 .f32) (harg10 : arg10.IsWhole) (arg11 : Memref sig .tc .vmem S4096x4096 .i16) (harg11 : arg11.IsWhole) (arg12 : Memref sig .tc .vmem S4096x128 .f32) (harg12 : arg12.IsWhole) (arg13 : Memref sig .tc .vmem S16x4096 .f32) (harg13 : arg13.IsWhole) (arg14 : Memref sig .tc .vmem S4096x16 .f32) (harg14 : arg14.IsWhole) (T : Prog (TpuEff nD τ sig (Elt F) Λ₀ .tc) PUnit) :
    Prog (TpuEff nD τ sig (Elt F) Λ₀ .tc) PUnit := do
  let ⟨arg0, v23, v28⟩ : Σ' (arg0 : BitVec 32) (v23 : FVec F S128x4096 .f32), IVec S128x4096 16 ← k0_part19 i arg1 harg1 arg2 harg2 arg3 harg3 arg4 harg4 arg5 harg5 arg6 harg6 arg7 harg7 arg8 harg8 arg9 harg9 arg10 harg10 arg11 harg11 arg12 harg12 arg13 harg13 arg14 harg14
  Prog.lift (.store arg11 (Rect.unit (s := S4096x4096) (k0_off1 i) S128x4096.size (k0_off1_inb i)) (k0_pay1 v28) Finset.univ (View.stores_vmem h_S128x4096 (harg11.storeExact_slice rfl _ (k0_off1_packedi16 i)) (fun _ => rfl)) (.inl rfl))
  let v34 : Vec F S4096x128 .f32 ← Prog.lift (.load arg12 (Rect.unit (s := S4096x128) ![0, 0] S4096x128.size inb_S4096x128_S4096x128_0_0).toLoadRect (View.loadsAt_vmem h_S4096x128))
  let v36 : Vec F S1x128 .f32 ← Prog.lift (.load arg7 (Rect.unit (s := S1x128) ![0, 0] S1x128.size inb_S1x128_S1x128_0_0).toLoadRect (View.loadsAt_vmem h_S1x128))
  let v42 : Vec F S128x16 .f32 ← Prog.lift (.load arg8 (Rect.unit (s := S128x16) ![0, 0] S128x16.size inb_S128x16_S128x16_0_0).toLoadRect (View.loadsAt_vmem h_S128x16))
  let v47 : Vec F S16x128 .f32 ← Prog.lift (.load arg13 (Rect.unit (s := S16x4096) (k0_off2 i) S16x128.size (k0_off2_inb i)).toLoadRect (View.loadsAt_vmem h_S16x128))
  Prog.lift (.store arg13 (Rect.unit (s := S16x4096) (k0_off2 i) S16x128.size (k0_off2_inb i)) (k0_pay2 v23 v34 v36 v42) Finset.univ (View.stores_vmem_bits_univ h_S16x128 rfl) (.inl rfl))
  if k0_h2 : k0_cond2 i = 1#1 then do
    let v59 : Vec F S128x2048 .i16 ← Prog.lift (.load arg11 (Rect.unit (s := S4096x4096) (k0_off3 i) S128x2048.size (k0_off3_inb i k0_h2)).toLoadRect (View.loadsAt_vmem h_S128x2048))
    let v63 : Vec F S128x16 .f32 ← Prog.lift (.load arg14 (Rect.unit (s := S4096x16) (k0_off4 i) S128x16.size (k0_off4_inb i k0_h2)).toLoadRect (View.loadsAt_vmem h_S128x16))
    let v64 : Vec F S16x2048 .f32 ← Prog.lift (.load arg13 (Rect.unit (s := S16x4096) ![0, 0] S16x2048.size inb_S16x4096_S16x2048_0_0).toLoadRect (View.loadsAt_vmem h_S16x2048))
    let v68 : Vec F S128x16 .f32 ← Prog.lift (.load arg14 (Rect.unit (s := S4096x16) (k0_off4 i) S128x16.size (k0_off4_inb i k0_h2)).toLoadRect (View.loadsAt_vmem h_S128x16))
    Prog.lift (.store arg14 (Rect.unit (s := S4096x16) (k0_off4 i) S128x16.size (k0_off4_inb i k0_h2)) (k0_pay3 v59 v63 v64) Finset.univ (View.stores_vmem_bits_univ h_S128x16 rfl) (.inl rfl))
    pure ⟨⟩
  else do
    pure ⟨⟩
  if k0_h3 : k0_cond3 i = 1#1 then T else do pure ⟨⟩

set_option maxRecDepth 65536 in
theorem body_eq (i : grid0.Coords) (arg1 : Memref sig .tc .vmem S3x128x4096 .f32) (harg1 : arg1.IsWhole) (arg2 : Memref sig .tc .vmem S128x16 .f32) (harg2 : arg2.IsWhole) (arg3 : Memref sig .tc .vmem S4096x16 .f32) (harg3 : arg3.IsWhole) (arg4 : Memref sig .tc .vmem S16x16 .f32) (harg4 : arg4.IsWhole) (arg5 : Memref sig .tc .vmem S4096x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S128x16 .f32) (harg8 : arg8.IsWhole) (arg9 : Memref sig .tc .vmem S1x16 .f32) (harg9 : arg9.IsWhole) (arg10 : Memref sig .tc .vmem S4096x16 .f32) (harg10 : arg10.IsWhole) (arg11 : Memref sig .tc .vmem S4096x4096 .i16) (harg11 : arg11.IsWhole) (arg12 : Memref sig .tc .vmem S4096x128 .f32) (harg12 : arg12.IsWhole) (arg13 : Memref sig .tc .vmem S16x4096 .f32) (harg13 : arg13.IsWhole) (arg14 : Memref sig .tc .vmem S4096x16 .f32) (harg14 : arg14.IsWhole) : cc0__body (F := F) i arg1 harg1 arg2 harg2 arg3 harg3 arg4 harg4 arg5 harg5 arg6 harg6 arg7 harg7 arg8 harg8 arg9 harg9 arg10 harg10 arg11 harg11 arg12 harg12 arg13 harg13 arg14 harg14 = bodyWith i arg1 harg1 arg2 harg2 arg3 harg3 arg4 harg4 arg5 harg5 arg6 harg6 arg7 harg7 arg8 harg8 arg9 harg9 arg10 harg10 arg11 harg11 arg12 harg12 arg13 harg13 arg14 harg14 (tailProg i arg1 harg1 arg2 harg2 arg3 harg3 arg4 harg4 arg5 harg5 arg6 harg6 arg7 harg7 arg8 harg8 arg9 harg9 arg10 harg10 arg11 harg11 arg12 harg12 arg13 harg13 arg14 harg14) := by
  simp only [cc0__body_eq_skeleton]
  rfl

set_option maxHeartbeats 1600000 in
/-- The first point. -/
theorem run_first (c : Dev nD) (i : grid0.Coords) (h0 : cond0 i) (h2 : ¬ k0_cond2 i = 1#1) (h3 : ¬ k0_cond3 i = 1#1) (arg1 : Memref sig .tc .vmem S3x128x4096 .f32) (harg1 : arg1.IsWhole) (arg2 : Memref sig .tc .vmem S128x16 .f32) (harg2 : arg2.IsWhole) (arg3 : Memref sig .tc .vmem S4096x16 .f32) (harg3 : arg3.IsWhole) (arg4 : Memref sig .tc .vmem S16x16 .f32) (harg4 : arg4.IsWhole) (arg5 : Memref sig .tc .vmem S4096x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S128x16 .f32) (harg8 : arg8.IsWhole) (arg9 : Memref sig .tc .vmem S1x16 .f32) (harg9 : arg9.IsWhole) (arg10 : Memref sig .tc .vmem S4096x16 .f32) (harg10 : arg10.IsWhole) (arg11 : Memref sig .tc .vmem S4096x4096 .i16) (harg11 : arg11.IsWhole) (arg12 : Memref sig .tc .vmem S4096x128 .f32) (harg12 : arg12.IsWhole) (arg13 : Memref sig .tc .vmem S16x4096 .f32) (harg13 : arg13.IsWhole) (arg14 : Memref sig .tc .vmem S4096x16 .f32) (harg14 : arg14.IsWhole)
    (x1 : Vec F S3x128x4096 .f32) (x2 : Vec F S128x16 .f32) (x3 : Vec F S4096x16 .f32) (x4 : Vec F S16x16 .f32) (x5 : Vec F S4096x128 .f32) (x6 : Vec F S128x128 .f32) (x7 : Vec F S1x128 .f32) (x8 : Vec F S128x16 .f32) (x9 : Vec F S1x16 .f32)
    (A : Vec F S4096x4096 .i16) (X : Vec F S4096x128 .f32) (Z : Vec F S16x4096 .f32) (L : Vec F S4096x16 .f32) (E : Set ℕ) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg11 fullShare (A) ∗ owns (c : Thread nD τ) arg12 fullShare (X) ∗ owns (c : Thread nD τ) arg13 fullShare (Z) ∗ owns (c : Thread nD τ) arg14 fullShare (L)
      ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg11 fullShare (stepA i (wordOf x1 x2 x3 x4) A) ∗ owns (c : Thread nD τ) arg12 fullShare (k0_pay54 x5 x6) ∗ owns (c : Thread nD τ) arg13 fullShare (stepZ i (foldOf x1 x2 x3 x4) (k0_pay54 x5 x6) x7 x8 Z) ∗ owns (c : Thread nD τ) arg14 fullShare (k0_pay55 (F := F))) -∗ K ⟨⟩))
      ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11 arg12 harg12 arg13 harg13 arg14 harg14) K := by
  rw [body_eq]
  generalize tailProg (F := F) i arg1 harg1 arg2 harg2 arg3 harg3 arg4 harg4 arg5 harg5 arg6 harg6 arg7 harg7 arg8 harg8 arg9 harg9 arg10 harg10 arg11 harg11 arg12 harg12 arg13 harg13 arg14 harg14 = T
  unfold bodyWith
  simp only [k0_part19_eq_skeleton]
  unfold k0_part19_skel owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f11, %hf11, H11⟩, ⟨%f12, %hf12, H12⟩, ⟨%f13, %hf13, H13⟩, ⟨%f14, %hf14, H14⟩, Hk⟩
  subst hf1
  subst hf2
  subst hf3
  subst hf4
  subst hf5
  subst hf6
  subst hf7
  subst hf8
  subst hf9
  subst hf11
  subst hf12
  subst hf13
  subst hf14
  sl_exec (disch := first | sl_exact h0 | sl_exact h2 | sl_exact h3)
  sl_step
  iapply Hk
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr; · ipureintro; rfl
    iexact H4
  isplitl [H5]
  · iexists _; isplitr; · ipureintro; rfl
    iexact H5
  isplitl [H6]
  · iexists _; isplitr; · ipureintro; rfl
    iexact H6
  isplitl [H7]
  · iexists _; isplitr; · ipureintro; rfl
    iexact H7
  isplitl [H8]
  · iexists _; isplitr; · ipureintro; rfl
    iexact H8
  isplitl [H9]
  · iexists _; isplitr; · ipureintro; rfl
    iexact H9
  isplitl [H11]
  · iexists _; isplitr; swap; · iexact H11
    ipureintro
    rw [← window_full (s := S128x16) (arg2.view.read (Elt F) f2) inb_S128x16_S128x16_0_0, ← window_full (s := S4096x16) (arg3.view.read (Elt F) f3) inb_S4096x16_S4096x16_0_0, ← window_full (s := S16x16) (arg4.view.read (Elt F) f4) inb_S16x16_S16x16_0_0]
    exact (View.read_writes_cons_put _ _ _ _ [] rfl).trans rfl
  isplitl [H12]
  · iexists _; isplitr; swap; · iexact H12
    ipureintro
    unfold run_first.sl.H12_1
    rw [← window_full (s := S4096x128) (arg5.view.read (Elt F) f5) inb_S4096x128_S4096x128_0_0, ← window_full (s := S128x128) (arg6.view.read (Elt F) f6) inb_S128x128_S128x128_0_0]
    exact (View.read_writes_full _ _ _ _ _).trans rfl
  isplitl [H13]
  · iexists _; isplitr; swap; · iexact H13
    ipureintro
    unfold run_first.sl.v34 run_first.sl.H12_1
    rw [← window_full (s := S128x16) (arg2.view.read (Elt F) f2) inb_S128x16_S128x16_0_0, ← window_full (s := S4096x16) (arg3.view.read (Elt F) f3) inb_S4096x16_S4096x16_0_0, ← window_full (s := S16x16) (arg4.view.read (Elt F) f4) inb_S16x16_S16x16_0_0, ← window_full (s := S4096x128) (arg5.view.read (Elt F) f5) inb_S4096x128_S4096x128_0_0, ← window_full (s := S128x128) (arg6.view.read (Elt F) f6) inb_S128x128_S128x128_0_0, ← window_full (s := S1x128) (arg7.view.read (Elt F) f7) inb_S1x128_S1x128_0_0, ← window_full (s := S128x16) (arg8.view.read (Elt F) f8) inb_S128x16_S128x16_0_0]
    exact (View.read_writes_cons_put _ _ _ _ [] rfl).trans (congrArg (fun X => VecWindow.put (s := S16x4096) (arg13.view.read (Elt F) f13) (k0_off2 i) S16x128.size (k0_pay2 _ X _ _)) (View.readCov_full arg12.view _ _ _ []))
  iexists _; isplitr; swap; · iexact H14
  ipureintro
  exact View.read_writes_full _ _ _ _ _

set_option maxHeartbeats 1600000 in
/-- A point of the first half, not the first. -/
theorem run_low (c : Dev nD) (i : grid0.Coords) (h0 : ¬ cond0 i) (h2 : ¬ k0_cond2 i = 1#1) (h3 : ¬ k0_cond3 i = 1#1) (arg1 : Memref sig .tc .vmem S3x128x4096 .f32) (harg1 : arg1.IsWhole) (arg2 : Memref sig .tc .vmem S128x16 .f32) (harg2 : arg2.IsWhole) (arg3 : Memref sig .tc .vmem S4096x16 .f32) (harg3 : arg3.IsWhole) (arg4 : Memref sig .tc .vmem S16x16 .f32) (harg4 : arg4.IsWhole) (arg5 : Memref sig .tc .vmem S4096x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S128x16 .f32) (harg8 : arg8.IsWhole) (arg9 : Memref sig .tc .vmem S1x16 .f32) (harg9 : arg9.IsWhole) (arg10 : Memref sig .tc .vmem S4096x16 .f32) (harg10 : arg10.IsWhole) (arg11 : Memref sig .tc .vmem S4096x4096 .i16) (harg11 : arg11.IsWhole) (arg12 : Memref sig .tc .vmem S4096x128 .f32) (harg12 : arg12.IsWhole) (arg13 : Memref sig .tc .vmem S16x4096 .f32) (harg13 : arg13.IsWhole) (arg14 : Memref sig .tc .vmem S4096x16 .f32) (harg14 : arg14.IsWhole)
    (x1 : Vec F S3x128x4096 .f32) (x2 : Vec F S128x16 .f32) (x3 : Vec F S4096x16 .f32) (x4 : Vec F S16x16 .f32) (x5 : Vec F S4096x128 .f32) (x6 : Vec F S128x128 .f32) (x7 : Vec F S1x128 .f32) (x8 : Vec F S128x16 .f32) (x9 : Vec F S1x16 .f32)
    (A : Vec F S4096x4096 .i16) (X : Vec F S4096x128 .f32) (Z : Vec F S16x4096 .f32) (L : Vec F S4096x16 .f32) (E : Set ℕ) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg11 fullShare (A) ∗ owns (c : Thread nD τ) arg12 fullShare (X) ∗ owns (c : Thread nD τ) arg13 fullShare (Z) ∗ owns (c : Thread nD τ) arg14 fullShare (L)
      ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg11 fullShare (stepA i (wordOf x1 x2 x3 x4) A) ∗ owns (c : Thread nD τ) arg12 fullShare (X) ∗ owns (c : Thread nD τ) arg13 fullShare (stepZ i (foldOf x1 x2 x3 x4) (X) x7 x8 Z) ∗ owns (c : Thread nD τ) arg14 fullShare (L)) -∗ K ⟨⟩))
      ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11 arg12 harg12 arg13 harg13 arg14 harg14) K := by
  rw [body_eq]
  generalize tailProg (F := F) i arg1 harg1 arg2 harg2 arg3 harg3 arg4 harg4 arg5 harg5 arg6 harg6 arg7 harg7 arg8 harg8 arg9 harg9 arg10 harg10 arg11 harg11 arg12 harg12 arg13 harg13 arg14 harg14 = T
  unfold bodyWith
  simp only [k0_part19_eq_skeleton]
  unfold k0_part19_skel owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f11, %hf11, H11⟩, ⟨%f12, %hf12, H12⟩, ⟨%f13, %hf13, H13⟩, ⟨%f14, %hf14, H14⟩, Hk⟩
  subst hf1
  subst hf2
  subst hf3
  subst hf4
  subst hf5
  subst hf6
  subst hf7
  subst hf8
  subst hf9
  subst hf11
  subst hf12
  subst hf13
  subst hf14
  sl_exec (disch := first | sl_exact h0 | sl_exact h2 | sl_exact h3)
  sl_step
  iapply Hk
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr; · ipureintro; rfl
    iexact H4
  isplitl [H5]
  · iexists _; isplitr; · ipureintro; rfl
    iexact H5
  isplitl [H6]
  · iexists _; isplitr; · ipureintro; rfl
    iexact H6
  isplitl [H7]
  · iexists _; isplitr; · ipureintro; rfl
    iexact H7
  isplitl [H8]
  · iexists _; isplitr; · ipureintro; rfl
    iexact H8
  isplitl [H9]
  · iexists _; isplitr; · ipureintro; rfl
    iexact H9
  isplitl [H11]
  · iexists _; isplitr; swap; · iexact H11
    ipureintro
    rw [← window_full (s := S128x16) (arg2.view.read (Elt F) f2) inb_S128x16_S128x16_0_0, ← window_full (s := S4096x16) (arg3.view.read (Elt F) f3) inb_S4096x16_S4096x16_0_0, ← window_full (s := S16x16) (arg4.view.read (Elt F) f4) inb_S16x16_S16x16_0_0]
    exact (View.read_writes_cons_put _ _ _ _ [] rfl).trans rfl
  isplitl [H12]
  · iexists _; isplitr; · ipureintro; rfl
    iexact H12
  isplitl [H13]
  · iexists _; isplitr; swap; · iexact H13
    ipureintro
    rw [← window_full (s := S128x16) (arg2.view.read (Elt F) f2) inb_S128x16_S128x16_0_0, ← window_full (s := S4096x16) (arg3.view.read (Elt F) f3) inb_S4096x16_S4096x16_0_0, ← window_full (s := S16x16) (arg4.view.read (Elt F) f4) inb_S16x16_S16x16_0_0, ← window_full (s := S1x128) (arg7.view.read (Elt F) f7) inb_S1x128_S1x128_0_0, ← window_full (s := S128x16) (arg8.view.read (Elt F) f8) inb_S128x16_S128x16_0_0, ← window_full (s := S4096x128) (arg12.view.read (Elt F) f12) inb_S4096x128_S4096x128_0_0]
    exact (View.read_writes_cons_put _ _ _ _ [] rfl).trans rfl
  iexists _; isplitr; · ipureintro; rfl
  iexact H14

set_option maxHeartbeats 1600000 in
/-- A point of the second half, not the last. -/
theorem run_high (c : Dev nD) (i : grid0.Coords) (h0 : ¬ cond0 i) (h2 : k0_cond2 i = 1#1) (h3 : ¬ k0_cond3 i = 1#1) (arg1 : Memref sig .tc .vmem S3x128x4096 .f32) (harg1 : arg1.IsWhole) (arg2 : Memref sig .tc .vmem S128x16 .f32) (harg2 : arg2.IsWhole) (arg3 : Memref sig .tc .vmem S4096x16 .f32) (harg3 : arg3.IsWhole) (arg4 : Memref sig .tc .vmem S16x16 .f32) (harg4 : arg4.IsWhole) (arg5 : Memref sig .tc .vmem S4096x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S128x16 .f32) (harg8 : arg8.IsWhole) (arg9 : Memref sig .tc .vmem S1x16 .f32) (harg9 : arg9.IsWhole) (arg10 : Memref sig .tc .vmem S4096x16 .f32) (harg10 : arg10.IsWhole) (arg11 : Memref sig .tc .vmem S4096x4096 .i16) (harg11 : arg11.IsWhole) (arg12 : Memref sig .tc .vmem S4096x128 .f32) (harg12 : arg12.IsWhole) (arg13 : Memref sig .tc .vmem S16x4096 .f32) (harg13 : arg13.IsWhole) (arg14 : Memref sig .tc .vmem S4096x16 .f32) (harg14 : arg14.IsWhole)
    (x1 : Vec F S3x128x4096 .f32) (x2 : Vec F S128x16 .f32) (x3 : Vec F S4096x16 .f32) (x4 : Vec F S16x16 .f32) (x5 : Vec F S4096x128 .f32) (x6 : Vec F S128x128 .f32) (x7 : Vec F S1x128 .f32) (x8 : Vec F S128x16 .f32) (x9 : Vec F S1x16 .f32)
    (A : Vec F S4096x4096 .i16) (X : Vec F S4096x128 .f32) (Z : Vec F S16x4096 .f32) (L : Vec F S4096x16 .f32) (E : Set ℕ) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg11 fullShare (A) ∗ owns (c : Thread nD τ) arg12 fullShare (X) ∗ owns (c : Thread nD τ) arg13 fullShare (Z) ∗ owns (c : Thread nD τ) arg14 fullShare (L)
      ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg11 fullShare (stepA i (wordOf x1 x2 x3 x4) A) ∗ owns (c : Thread nD τ) arg12 fullShare (X) ∗ owns (c : Thread nD τ) arg13 fullShare (stepZ i (foldOf x1 x2 x3 x4) (X) x7 x8 Z) ∗ owns (c : Thread nD τ) arg14 fullShare (stepL i h2 A Z L)) -∗ K ⟨⟩))
      ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11 arg12 harg12 arg13 harg13 arg14 harg14) K := by
  rw [body_eq]
  generalize tailProg (F := F) i arg1 harg1 arg2 harg2 arg3 harg3 arg4 harg4 arg5 harg5 arg6 harg6 arg7 harg7 arg8 harg8 arg9 harg9 arg10 harg10 arg11 harg11 arg12 harg12 arg13 harg13 arg14 harg14 = T
  unfold bodyWith
  simp only [k0_part19_eq_skeleton]
  unfold k0_part19_skel owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f11, %hf11, H11⟩, ⟨%f12, %hf12, H12⟩, ⟨%f13, %hf13, H13⟩, ⟨%f14, %hf14, H14⟩, Hk⟩
  subst hf1
  subst hf2
  subst hf3
  subst hf4
  subst hf5
  subst hf6
  subst hf7
  subst hf8
  subst hf9
  subst hf11
  subst hf12
  subst hf13
  subst hf14
  have hi := coord_lt i
  have hl := cond2_le i h2
  haveI : Fact (k0_cond2 i = 1#1) := ⟨h2⟩
  sl_exec (disch := first | sl_exact h0 | sl_exact h2 | sl_exact h3)
  sl_step
  iapply Hk
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr; · ipureintro; rfl
    iexact H4
  isplitl [H5]
  · iexists _; isplitr; · ipureintro; rfl
    iexact H5
  isplitl [H6]
  · iexists _; isplitr; · ipureintro; rfl
    iexact H6
  isplitl [H7]
  · iexists _; isplitr; · ipureintro; rfl
    iexact H7
  isplitl [H8]
  · iexists _; isplitr; · ipureintro; rfl
    iexact H8
  isplitl [H9]
  · iexists _; isplitr; · ipureintro; rfl
    iexact H9
  isplitl [H11]
  · iexists _; isplitr; swap; · iexact H11
    ipureintro
    rw [← window_full (s := S128x16) (arg2.view.read (Elt F) f2) inb_S128x16_S128x16_0_0, ← window_full (s := S4096x16) (arg3.view.read (Elt F) f3) inb_S4096x16_S4096x16_0_0, ← window_full (s := S16x16) (arg4.view.read (Elt F) f4) inb_S16x16_S16x16_0_0]
    exact (View.read_writes_cons_put _ _ _ _ [] rfl).trans rfl
  isplitl [H12]
  · iexists _; isplitr; · ipureintro; rfl
    iexact H12
  isplitl [H13]
  · iexists _; isplitr; swap; · iexact H13
    ipureintro
    rw [← window_full (s := S128x16) (arg2.view.read (Elt F) f2) inb_S128x16_S128x16_0_0, ← window_full (s := S4096x16) (arg3.view.read (Elt F) f3) inb_S4096x16_S4096x16_0_0, ← window_full (s := S16x16) (arg4.view.read (Elt F) f4) inb_S16x16_S16x16_0_0, ← window_full (s := S1x128) (arg7.view.read (Elt F) f7) inb_S1x128_S1x128_0_0, ← window_full (s := S128x16) (arg8.view.read (Elt F) f8) inb_S128x16_S128x16_0_0, ← window_full (s := S4096x128) (arg12.view.read (Elt F) f12) inb_S4096x128_S4096x128_0_0]
    exact (View.read_writes_cons_put _ _ _ _ [] rfl).trans rfl
  iexists _; isplitr; swap; · iexact H14
  ipureintro
  unfold run_high.sl.v59 run_high.sl.v64 run_high.sl.v63 run_high.sl.H11_1 run_high.sl.H13_1
  rw [load_apart _ _ _ _ _ 0 (off31 i h2), load_apart _ _ _ _ _ 1 (off02 i h2)]
  exact (View.read_writes_cons_put _ _ _ _ [] rfl).trans rfl

set_option maxHeartbeats 1600000 in
/-- The last point. -/
theorem run_last (c : Dev nD) (i : grid0.Coords) (h0 : ¬ cond0 i) (h2 : k0_cond2 i = 1#1) (h3 : k0_cond3 i = 1#1) (arg1 : Memref sig .tc .vmem S3x128x4096 .f32) (harg1 : arg1.IsWhole) (arg2 : Memref sig .tc .vmem S128x16 .f32) (harg2 : arg2.IsWhole) (arg3 : Memref sig .tc .vmem S4096x16 .f32) (harg3 : arg3.IsWhole) (arg4 : Memref sig .tc .vmem S16x16 .f32) (harg4 : arg4.IsWhole) (arg5 : Memref sig .tc .vmem S4096x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S128x16 .f32) (harg8 : arg8.IsWhole) (arg9 : Memref sig .tc .vmem S1x16 .f32) (harg9 : arg9.IsWhole) (arg10 : Memref sig .tc .vmem S4096x16 .f32) (harg10 : arg10.IsWhole) (arg11 : Memref sig .tc .vmem S4096x4096 .i16) (harg11 : arg11.IsWhole) (arg12 : Memref sig .tc .vmem S4096x128 .f32) (harg12 : arg12.IsWhole) (arg13 : Memref sig .tc .vmem S16x4096 .f32) (harg13 : arg13.IsWhole) (arg14 : Memref sig .tc .vmem S4096x16 .f32) (harg14 : arg14.IsWhole)
    (x1 : Vec F S3x128x4096 .f32) (x2 : Vec F S128x16 .f32) (x3 : Vec F S4096x16 .f32) (x4 : Vec F S16x16 .f32) (x5 : Vec F S4096x128 .f32) (x6 : Vec F S128x128 .f32) (x7 : Vec F S1x128 .f32) (x8 : Vec F S128x16 .f32) (x9 : Vec F S1x16 .f32)
    (A : Vec F S4096x4096 .i16) (X : Vec F S4096x128 .f32) (Z : Vec F S16x4096 .f32) (L : Vec F S4096x16 .f32) (E : Set ℕ) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ (∃ d, owns (c : Thread nD τ) arg10 fullShare d) ∗ owns (c : Thread nD τ) arg11 fullShare (A) ∗ owns (c : Thread nD τ) arg12 fullShare (X) ∗ owns (c : Thread nD τ) arg13 fullShare (Z) ∗ owns (c : Thread nD τ) arg14 fullShare (L)
      ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare (outOf (stepA i (wordOf x1 x2 x3 x4) A) (stepZ i (foldOf x1 x2 x3 x4) (X) x7 x8 Z) (stepL i h2 A Z L) x9) ∗ owns (c : Thread nD τ) arg11 fullShare (stepA i (wordOf x1 x2 x3 x4) A) ∗ owns (c : Thread nD τ) arg12 fullShare (X) ∗ owns (c : Thread nD τ) arg13 fullShare (stepZ i (foldOf x1 x2 x3 x4) (X) x7 x8 Z) ∗ owns (c : Thread nD τ) arg14 fullShare (stepL i h2 A Z L)) -∗ K ⟨⟩))
      ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11 arg12 harg12 arg13 harg13 arg14 harg14) K := by
  rw [body_eq]
  have hT := tail_run (F := F) c i arg1 harg1 arg2 harg2 arg3 harg3 arg4 harg4 arg5 harg5 arg6 harg6 arg7 harg7 arg8 harg8 arg9 harg9 arg10 harg10 arg11 harg11 arg12 harg12 arg13 harg13 arg14 harg14
  generalize tailProg (F := F) i arg1 harg1 arg2 harg2 arg3 harg3 arg4 harg4 arg5 harg5 arg6 harg6 arg7 harg7 arg8 harg8 arg9 harg9 arg10 harg10 arg11 harg11 arg12 harg12 arg13 harg13 arg14 harg14 = T at hT ⊢
  unfold bodyWith
  simp only [k0_part19_eq_skeleton]
  unfold k0_part19_skel owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, %hf10, H10⟩, ⟨%f11, %hf11, H11⟩, ⟨%f12, %hf12, H12⟩, ⟨%f13, %hf13, H13⟩, ⟨%f14, %hf14, H14⟩, Hk⟩
  subst hf1
  subst hf2
  subst hf3
  subst hf4
  subst hf5
  subst hf6
  subst hf7
  subst hf8
  subst hf9
  subst hf11
  subst hf12
  subst hf13
  subst hf14
  have hi := coord_lt i
  have hl := cond2_le i h2
  haveI : Fact (k0_cond2 i = 1#1) := ⟨h2⟩
  sl_exec (disch := first | sl_exact h0 | sl_exact h2 | sl_exact h3)
  iapply (hT (arg9.view.read (Elt F) f9) (stepA i (wordOf (arg1.view.read (Elt F) f1) (arg2.view.read (Elt F) f2) (arg3.view.read (Elt F) f3) (arg4.view.read (Elt F) f4)) (arg11.view.read (Elt F) f11)) (stepZ i (foldOf (arg1.view.read (Elt F) f1) (arg2.view.read (Elt F) f2) (arg3.view.read (Elt F) f3) (arg4.view.read (Elt F) f4)) (arg12.view.read (Elt F) f12) (arg7.view.read (Elt F) f7) (arg8.view.read (Elt F) f8) (arg13.view.read (Elt F) f13)) (stepL i h2 (arg11.view.read (Elt F) f11) (arg13.view.read (Elt F) f13) (arg14.view.read (Elt F) f14)) E K)
  unfold owns
  isplitl [H9]
  · iexists _; isplitr; · ipureintro; rfl
    iexact H9
  isplitl [H10]
  · iexists _, _; isplitr; swap; · iexact H10
    ipureintro; rfl
  isplitl [H11]
  · iexists _; isplitr; swap; · iexact H11
    ipureintro
    rw [← window_full (s := S128x16) (arg2.view.read (Elt F) f2) inb_S128x16_S128x16_0_0, ← window_full (s := S4096x16) (arg3.view.read (Elt F) f3) inb_S4096x16_S4096x16_0_0, ← window_full (s := S16x16) (arg4.view.read (Elt F) f4) inb_S16x16_S16x16_0_0]
    exact (View.read_writes_cons_put _ _ _ _ [] rfl).trans rfl
  isplitl [H13]
  · iexists _; isplitr; swap; · iexact H13
    ipureintro
    rw [← window_full (s := S128x16) (arg2.view.read (Elt F) f2) inb_S128x16_S128x16_0_0, ← window_full (s := S4096x16) (arg3.view.read (Elt F) f3) inb_S4096x16_S4096x16_0_0, ← window_full (s := S16x16) (arg4.view.read (Elt F) f4) inb_S16x16_S16x16_0_0, ← window_full (s := S1x128) (arg7.view.read (Elt F) f7) inb_S1x128_S1x128_0_0, ← window_full (s := S128x16) (arg8.view.read (Elt F) f8) inb_S128x16_S128x16_0_0, ← window_full (s := S4096x128) (arg12.view.read (Elt F) f12) inb_S4096x128_S4096x128_0_0]
    exact (View.read_writes_cons_put _ _ _ _ [] rfl).trans rfl
  isplitl [H14]
  · iexists _; isplitr; swap; · iexact H14
    ipureintro
    unfold run_last.sl.v59 run_last.sl.v64 run_last.sl.v63 run_last.sl.H11_1 run_last.sl.H13_1
    rw [load_apart _ _ _ _ _ 0 (off31 i h2), load_apart _ _ _ _ _ 1 (off02 i h2)]
    exact (View.read_writes_cons_put _ _ _ _ [] rfl).trans rfl
  iintro ⟨H9, H10, H11, H13, H14⟩
  iapply Hk
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr; · ipureintro; rfl
    iexact H4
  isplitl [H5]
  · iexists _; isplitr; · ipureintro; rfl
    iexact H5
  isplitl [H6]
  · iexists _; isplitr; · ipureintro; rfl
    iexact H6
  isplitl [H7]
  · iexists _; isplitr; · ipureintro; rfl
    iexact H7
  isplitl [H8]
  · iexists _; isplitr; · ipureintro; rfl
    iexact H8
  isplitl [H9]
  · iexact H9
  isplitl [H10]
  · iexact H10
  isplitl [H11]
  · iexact H11
  isplitl [H12]
  · iexists _; isplitr; · ipureintro; rfl
    iexact H12
  isplitl [H13]
  · iexact H13
  iexact H14

end Cert.KernelIdeal.Own

end
-- ==== Proof.KI.State.lean ====
/- What the scratches hold between grid points, and what the last point leaves in the output block, in closed form
   over the windows' blocks. -/
module

public import proofs.«01_k».proof.Proof.Gen.KernelIdeal.Frame
public import proofs.«01_k».proof.Proof.Gen.KernelIdeal.Skeleton
public import proofs.«01_k».proof.Proof.KI.Head
public import Idealize.ShloMosaic.Lib.VecWindow
public import Idealize.ShloMosaic.Lib.Pipeline.ReadBack
public import Idealize.ShloMosaic.Lib.Pipeline.ValueKit

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (c : Dev nD)

/-- The grid point of a number. -/
def pt (n : ℕ) (h : n < 32) : Fin cfg0.N := ⟨n, lt_of_lt_of_eq h N_0.symm⟩

theorem pt_val (t : Fin cfg0.N) (h : t.val < 32) : pt t.val h = t := rfl

/-- The folded adjacency of a point's rows. -/
def foldAt (t : Fin cfg0.N) : FVec F S128x4096 .f32 := foldOf (iblk m c 0 t) (iblk m c 1 t) (iblk m c 2 t) (iblk m c 3 t)

/-- Its fixed-point words. -/
def wordAt (t : Fin cfg0.N) : Vec F S128x4096 .i16 := wordOf (iblk m c 0 t) (iblk m c 1 t) (iblk m c 2 t) (iblk m c 3 t)

/-- The first projection. -/
def xwFin : Vec F S4096x128 .f32 := k0_pay54 (iblk m c 4 (pt 0 (by decide))) (iblk m c 5 (pt 0 (by decide)))

/-- The projected second-layer features of a point's rows. -/
def zAt (t : Fin cfg0.N) : Vec F S16x128 .f32 := k0_pay2 (foldAt m c t) (xwFin m c) (iblk m c 6 t) (iblk m c 7 t)

theorem div_lt (n : ℕ) (h : n < 4096) : n / 128 < 32 := by omega

/-- All the words. -/
def wFin : Vec F S4096x4096 .i16 := fun y =>
  wordAt m c (pt ((y 0).val / 128) (div_lt _ (y 0).isLt)) (ix2 (n0 := 128) (n1 := 4096) ⟨(y 0).val % 128, Nat.mod_lt _ (by decide)⟩ (y 1))

/-- All the projected second-layer features. -/
def zFin : Vec F S16x4096 .f32 := fun y =>
  zAt m c (pt ((y 1).val / 128) (div_lt _ (y 1).isLt)) (ix2 (n0 := 16) (n1 := 128) (y 0) ⟨(y 1).val % 128, Nat.mod_lt _ (by decide)⟩)

/-- The sums over the first half for one block of rows. -/
def lBlk (r : ℕ) (hr : r < 16) : Vec F S128x16 .f32 :=
  k0_pay3 (VecWindow.window (s := S4096x4096) (wFin m c) ![128 * r, 0] S128x2048.size (rows_inb r 0 (by omega) (by omega)))
    (VecWindow.window (s := S4096x16) (k0_pay55 (F := F)) ![128 * r, 0] S128x16.size (rows_inb r 0 (by omega) (by omega)))
    (VecWindow.window (s := S16x4096) (zFin m c) ![0, 0] S16x2048.size inb_S16x4096_S16x2048_0_0)

/-- The partial sums once `k` points are done. -/
def lUpto (k : ℕ) : Vec F S4096x16 .f32 := fun y =>
  if h : (y 0).val / 128 < 16 ∧ (y 0).val / 128 + 16 < k then
    lBlk m c ((y 0).val / 128) h.1 (ix2 (n0 := 128) (n1 := 16) ⟨(y 0).val % 128, Nat.mod_lt _ (by decide)⟩ (y 1))
  else k0_pay55 (F := F) y

/-- What the scratches hold before point `k`. -/
structure Inv (k : ℕ) (A : Vec F S4096x4096 .i16) (X : Vec F S4096x128 .f32) (Z : Vec F S16x4096 .f32) (L : Vec F S4096x16 .f32) : Prop where
  hA : ∀ y : S4096x4096.Idx, (y 0).val / 128 < k → A y = wFin m c y
  hX : 0 < k → X = xwFin m c
  hZ : ∀ y : S16x4096.Idx, (y 1).val / 128 < k → Z y = zFin m c y
  hL : 0 < k → L = lUpto m c k

theorem inv_start (A : Vec F S4096x4096 .i16) (X : Vec F S4096x128 .f32) (Z : Vec F S16x4096 .f32) (L : Vec F S4096x16 .f32) : Inv m c 0 A X Z L :=
  ⟨fun _ h => absurd h (Nat.not_lt_zero _), fun h => absurd h (Nat.lt_irrefl 0), fun _ h => absurd h (Nat.not_lt_zero _), fun h => absurd h (Nat.lt_irrefl 0)⟩

/-! ## Putting a block of rows, or of columns -/

theorem put_rows {α : Type} {p : ℕ} (x : (⟨2, ![4096, p]⟩ : Shape).Idx → α) (off : Fin 2 → ℕ) (k : ℕ) (hoff : off = ![128 * k, 0])
    (w : (⟨2, ![128, p]⟩ : Shape).Idx → α) (y : (⟨2, ![4096, p]⟩ : Shape).Idx) :
    VecWindow.put (s := ⟨2, ![4096, p]⟩) x off ![128, p] w y
      = if (y 0).val / 128 = k then w (ix2 (n0 := 128) (n1 := p) ⟨(y 0).val % 128, Nat.mod_lt _ (by decide)⟩ (y 1)) else x y := by
  subst hoff
  have h1 : (y 1).val < p := (y 1).isLt
  unfold VecWindow.put
  by_cases hk : (y 0).val / 128 = k
  · have h : ∀ a : Fin 2, (![128 * k, 0] : Fin 2 → ℕ) a ≤ (y a).val ∧ (y a).val < (![128 * k, 0] : Fin 2 → ℕ) a + (![128, p] : Fin 2 → ℕ) a := by
      intro a; fin_cases a
      · show 128 * k ≤ (y 0).val ∧ (y 0).val < 128 * k + 128; omega
      · show 0 ≤ (y 1).val ∧ (y 1).val < 0 + p; omega
    rw [if_pos hk, dif_pos h]
    refine congrArg w (funext fun a => Fin.ext ?_)
    fin_cases a
    · show (y 0).val - 128 * k = (y 0).val % 128; omega
    · show (y 1).val - 0 = (y 1).val; omega
  · rw [if_neg hk, dif_neg]
    intro h
    have h0 : 128 * k ≤ (y 0).val ∧ (y 0).val < 128 * k + 128 := h 0
    omega

theorem put_cols {α : Type} (x : (⟨2, ![16, 4096]⟩ : Shape).Idx → α) (off : Fin 2 → ℕ) (k : ℕ) (hoff : off = ![0, 128 * k])
    (w : (⟨2, ![16, 128]⟩ : Shape).Idx → α) (y : (⟨2, ![16, 4096]⟩ : Shape).Idx) :
    VecWindow.put (s := ⟨2, ![16, 4096]⟩) x off ![16, 128] w y
      = if (y 1).val / 128 = k then w (ix2 (n0 := 16) (n1 := 128) (y 0) ⟨(y 1).val % 128, Nat.mod_lt _ (by decide)⟩) else x y := by
  subst hoff
  have h1 : (y 0).val < 16 := (y 0).isLt
  unfold VecWindow.put
  by_cases hk : (y 1).val / 128 = k
  · have h : ∀ a : Fin 2, (![0, 128 * k] : Fin 2 → ℕ) a ≤ (y a).val ∧ (y a).val < (![0, 128 * k] : Fin 2 → ℕ) a + (![16, 128] : Fin 2 → ℕ) a := by
      intro a; fin_cases a
      · show 0 ≤ (y 0).val ∧ (y 0).val < 0 + 16; omega
      · show 128 * k ≤ (y 1).val ∧ (y 1).val < 128 * k + 128; omega
    rw [if_pos hk, dif_pos h]
    refine congrArg w (funext fun a => Fin.ext ?_)
    fin_cases a
    · show (y 0).val - 0 = (y 0).val; omega
    · show (y 1).val - 128 * k = (y 1).val % 128; omega
  · rw [if_neg hk, dif_neg]
    intro h
    have h0 : 128 * k ≤ (y 1).val ∧ (y 1).val < 128 * k + 128 := h 1
    omega

/-! ## The steps -/

variable (t : Fin cfg0.N) (A : Vec F S4096x4096 .i16) (X : Vec F S4096x128 .f32) (Z : Vec F S16x4096 .f32) (L : Vec F S4096x16 .f32)

theorem coord_eq : (grid0.coords t 0).val = t.val := by
  have ht : t.val < 32 := Nat.lt_of_lt_of_eq t.isLt N_0
  have e0 : (grid0.coords t 0).val = t.val / 1 % 32 := Pipeline.Grid.coords_val t 0 (by decide) rfl
  omega

theorem step_words (hA : ∀ y : S4096x4096.Idx, (y 0).val / 128 < t.val → A y = wFin m c y) (y : S4096x4096.Idx) (hy : (y 0).val / 128 < t.val + 1) :
    stepA (grid0.coords t) (wordAt m c t) A y = wFin m c y := by
  have ht : t.val < 32 := Nat.lt_of_lt_of_eq t.isLt N_0
  refine (put_rows A _ t.val (by rw [off1_eq, coord_eq]) (wordAt m c t) y).trans ?_
  by_cases hk : (y 0).val / 128 = t.val
  · rw [if_pos hk]
    have e : pt ((y 0).val / 128) (div_lt _ (y 0).isLt) = t := Fin.ext hk
    unfold wFin; rw [e]
  · rw [if_neg hk]; exact hA y (by omega)

theorem step_feats (hX : X = xwFin m c) (hZ : ∀ y : S16x4096.Idx, (y 1).val / 128 < t.val → Z y = zFin m c y) (y : S16x4096.Idx) (hy : (y 1).val / 128 < t.val + 1) :
    stepZ (grid0.coords t) (foldAt m c t) X (iblk m c 6 t) (iblk m c 7 t) Z y = zFin m c y := by
  subst hX
  have ht : t.val < 32 := Nat.lt_of_lt_of_eq t.isLt N_0
  refine (put_cols Z _ t.val (by rw [off2_eq, coord_eq]) (zAt m c t) y).trans ?_
  by_cases hk : (y 1).val / 128 = t.val
  · rw [if_pos hk]
    have e : pt ((y 1).val / 128) (div_lt _ (y 1).isLt) = t := Fin.ext hk
    unfold zFin; rw [e]
  · rw [if_neg hk]; exact hZ y (by omega)

theorem lUpto_low (k : ℕ) (hk : k ≤ 16) : lUpto m c k = k0_pay55 (F := F) := by
  funext y
  exact dif_neg (by omega)

theorem step_sums (h2 : k0_cond2 (grid0.coords t) = 1#1) (hA : ∀ y : S4096x4096.Idx, (y 0).val / 128 < t.val → A y = wFin m c y)
    (hZ : ∀ y : S16x4096.Idx, (y 1).val / 128 < t.val → Z y = zFin m c y) (hL : L = lUpto m c t.val) :
    stepL (grid0.coords t) h2 A Z L = lUpto m c (t.val + 1) := by
  subst hL
  have ht : t.val < 32 := Nat.lt_of_lt_of_eq t.isLt N_0
  have h16 : 16 ≤ t.val := by have := cond2_le _ h2; rwa [coord_eq] at this
  have e3 : k0_off3 (grid0.coords t) = ![128 * (t.val - 16), 0] := by rw [off3_eq _ h2, coord_eq]
  have e4 : k0_off4 (grid0.coords t) = ![128 * (t.val - 16), 0] := by rw [off4_eq _ h2, coord_eq]
  have key : k0_pay3 (VecWindow.window (s := S4096x4096) A (k0_off3 (grid0.coords t)) S128x2048.size (k0_off3_inb (grid0.coords t) h2))
      (VecWindow.window (s := S4096x16) (lUpto m c t.val) (k0_off4 (grid0.coords t)) S128x16.size (k0_off4_inb (grid0.coords t) h2))
      (VecWindow.window (s := S16x4096) Z ![0, 0] S16x2048.size inb_S16x4096_S16x2048_0_0) = lBlk m c (t.val - 16) (by omega) := by
    suffices gen : ∀ (o3 o4 : Fin 2 → ℕ) (i3 : ∀ a : Fin 2, o3 a + S128x2048.size a ≤ S4096x4096.size a) (i4 : ∀ a : Fin 2, o4 a + S128x16.size a ≤ S4096x16.size a),
        o3 = ![128 * (t.val - 16), 0] → o4 = ![128 * (t.val - 16), 0] →
        k0_pay3 (VecWindow.window (s := S4096x4096) A o3 S128x2048.size i3) (VecWindow.window (s := S4096x16) (lUpto m c t.val) o4 S128x16.size i4)
          (VecWindow.window (s := S16x4096) Z ![0, 0] S16x2048.size inb_S16x4096_S16x2048_0_0) = lBlk m c (t.val - 16) (by omega) from
      gen _ _ (k0_off3_inb (grid0.coords t) h2) (k0_off4_inb (grid0.coords t) h2) e3 e4
    intro o3 o4 i3 i4 e3 e4
    subst e3 e4
    have a1 : VecWindow.window (s := S4096x4096) A ![128 * (t.val - 16), 0] S128x2048.size i3 = VecWindow.window (s := S4096x4096) (wFin m c) ![128 * (t.val - 16), 0] S128x2048.size i3 := by
      funext x
      have hx : (x 0).val < 128 := (x 0).isLt
      refine hA _ ?_
      show (128 * (t.val - 16) + 1 * (x 0).val) / 128 < t.val
      omega
    have a2 : VecWindow.window (s := S4096x16) (lUpto m c t.val) ![128 * (t.val - 16), 0] S128x16.size i4 = VecWindow.window (s := S4096x16) (k0_pay55 (F := F)) ![128 * (t.val - 16), 0] S128x16.size i4 := by
      funext x
      have hx : (x 0).val < 128 := (x 0).isLt
      refine dif_neg ?_
      show ¬ ((128 * (t.val - 16) + 1 * (x 0).val) / 128 < 16 ∧ (128 * (t.val - 16) + 1 * (x 0).val) / 128 + 16 < t.val)
      omega
    have a3 : VecWindow.window (s := S16x4096) Z ![0, 0] S16x2048.size inb_S16x4096_S16x2048_0_0 = VecWindow.window (s := S16x4096) (zFin m c) ![0, 0] S16x2048.size inb_S16x4096_S16x2048_0_0 := by
      funext x
      have hx : (x 1).val < 2048 := (x 1).isLt
      refine hZ _ ?_
      show (0 + 1 * (x 1).val) / 128 < t.val
      omega
    rw [a1, a2, a3]; rfl
  funext y
  refine (put_rows (lUpto m c t.val) _ (t.val - 16) e4 _ y).trans ?_
  rw [key]
  by_cases hk : (y 0).val / 128 = t.val - 16
  · rw [if_pos hk]
    have hc : (y 0).val / 128 < 16 ∧ (y 0).val / 128 + 16 < t.val + 1 := by omega
    unfold lUpto
    rw [dif_pos hc]
    have : ∀ (r : ℕ) (h : r < 16) (h' : t.val - 16 < 16), r = t.val - 16 → lBlk m c (t.val - 16) h' = lBlk m c r h := by
      intro r h h' e; subst e; rfl
    rw [this _ hc.1 _ hk]
  · rw [if_neg hk]
    unfold lUpto
    by_cases hc : (y 0).val / 128 < 16 ∧ (y 0).val / 128 + 16 < t.val
    · rw [dif_pos hc, dif_pos ⟨hc.1, by omega⟩]
    · rw [dif_neg hc, dif_neg (by omega)]

theorem cond0_iff : cond0 (grid0.coords t) ↔ t.val = 0 :=
  (fun t => by
    have ht : t.val < 32 := Nat.lt_of_lt_of_eq t.isLt N_0
    have e0 : (grid0.coords t 0).val = t.val / 1 % 32 := Pipeline.Grid.coords_val t 0 (by decide) rfl
    simp only [cond0, e0]
    word_cmp
   : ∀ t : Fin grid0.N, cond0 (grid0.coords t) ↔ t.val = 0) t

theorem cond2_iff : k0_cond2 (grid0.coords t) = 1#1 ↔ 16 ≤ t.val :=
  (by decide +kernel : ∀ t : Fin grid0.N, k0_cond2 (grid0.coords t) = 1#1 ↔ 16 ≤ t.val) t

theorem cond3_iff : k0_cond3 (grid0.coords t) = 1#1 ↔ t.val = 31 :=
  (by decide +kernel : ∀ t : Fin grid0.N, k0_cond3 (grid0.coords t) = 1#1 ↔ t.val = 31) t

theorem inv_first (h0 : t.val = 0) (I : Inv m c t.val A X Z L) :
    Inv m c (t.val + 1) (stepA (grid0.coords t) (wordAt m c t) A) (k0_pay54 (iblk m c 4 t) (iblk m c 5 t))
      (stepZ (grid0.coords t) (foldAt m c t) (k0_pay54 (iblk m c 4 t) (iblk m c 5 t)) (iblk m c 6 t) (iblk m c 7 t) Z) (k0_pay55 (F := F)) := by
  have e : t = pt 0 (by decide) := Fin.ext h0
  have hx : k0_pay54 (iblk m c 4 t) (iblk m c 5 t) = xwFin m c := by rw [e]; rfl
  exact ⟨step_words m c t A I.hA, fun _ => hx, step_feats m c t _ Z hx I.hZ, fun _ => (lUpto_low m c _ (by omega)).symm⟩

theorem inv_low (h0 : t.val ≠ 0) (h2 : ¬ k0_cond2 (grid0.coords t) = 1#1) (I : Inv m c t.val A X Z L) :
    Inv m c (t.val + 1) (stepA (grid0.coords t) (wordAt m c t) A) X
      (stepZ (grid0.coords t) (foldAt m c t) X (iblk m c 6 t) (iblk m c 7 t) Z) L := by
  have h16 : t.val < 16 := Nat.lt_of_not_le fun h => h2 ((cond2_iff t).mpr h)
  exact ⟨step_words m c t A I.hA, fun _ => I.hX (by omega), step_feats m c t _ Z (I.hX (by omega)) I.hZ,
    fun _ => (I.hL (by omega)).trans ((lUpto_low m c _ (by omega)).trans (lUpto_low m c _ (by omega)).symm)⟩

theorem inv_high (h0 : t.val ≠ 0) (h2 : k0_cond2 (grid0.coords t) = 1#1) (I : Inv m c t.val A X Z L) :
    Inv m c (t.val + 1) (stepA (grid0.coords t) (wordAt m c t) A) X
      (stepZ (grid0.coords t) (foldAt m c t) X (iblk m c 6 t) (iblk m c 7 t) Z) (stepL (grid0.coords t) h2 A Z L) :=
  ⟨step_words m c t A I.hA, fun _ => I.hX (by omega), step_feats m c t _ Z (I.hX (by omega)) I.hZ,
    fun _ => step_sums m c t A Z L h2 I.hA I.hZ (I.hL (by omega))⟩

/-- What the last point leaves in the output block. -/
def outFin (t : Fin cfg0.N) : Vec F S4096x16 .f32 := outOf (wFin m c) (zFin m c) (lUpto m c 32) (iblk m c 8 t)

theorem inv_out (h : t.val = 31) (I : Inv m c (t.val + 1) A X Z L) : outOf A Z L (iblk m c 8 t) = outFin m c t := by
  rw [h] at I
  have a : A = wFin m c := funext fun y => I.hA y (div_lt _ (y 0).isLt)
  have z : Z = zFin m c := funext fun y => I.hZ y (div_lt _ (y 1).isLt)
  rw [a, z, I.hL (by decide)]; rfl

end Cert.KernelIdeal.Own

end
-- ==== Proof.KI.Run.lean ====
/- The launch: the invariant over the grid points, the proof data, the body at every point, and the frame. -/
module

public import proofs.«01_k».proof.Proof.Gen.KernelIdeal.Frame
public import proofs.«01_k».proof.Proof.Gen.KernelIdeal.Skeleton
public import proofs.«01_k».proof.Proof.KI.State
public import proofs.«01_k».proof.Proof.Gen.KernelIdeal.Frame
public import Idealize.ShloMosaic.Lib.Pipeline.FrameBody
public import Idealize.ShloMosaic.Lib.VecWindow
public import Idealize.ShloMosaic.Lib.Pipeline.ReadBack
public import Idealize.ShloMosaic.Lib.Pipeline.ValueKit

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The staging buffers and the scratches -/

abbrev ms0 (t : Fin cfg0.N) := win0_0.stage (cfg0.slots t 0)
theorem hs0 (t : Fin cfg0.N) : (ms0 t).IsWhole := hstage0_0 ((cfg0.slots t 0).cast nbuf0_0)
abbrev ms1 (t : Fin cfg0.N) := win0_1.stage (cfg0.slots t 1)
theorem hs1 (t : Fin cfg0.N) : (ms1 t).IsWhole := hstage0_1 ((cfg0.slots t 1).cast nbuf0_1)
abbrev ms2 (t : Fin cfg0.N) := win0_2.stage (cfg0.slots t 2)
theorem hs2 (t : Fin cfg0.N) : (ms2 t).IsWhole := hstage0_2 ((cfg0.slots t 2).cast nbuf0_2)
abbrev ms3 (t : Fin cfg0.N) := win0_3.stage (cfg0.slots t 3)
theorem hs3 (t : Fin cfg0.N) : (ms3 t).IsWhole := hstage0_3 ((cfg0.slots t 3).cast nbuf0_3)
abbrev ms4 (t : Fin cfg0.N) := win0_4.stage (cfg0.slots t 4)
theorem hs4 (t : Fin cfg0.N) : (ms4 t).IsWhole := hstage0_4 ((cfg0.slots t 4).cast nbuf0_4)
abbrev ms5 (t : Fin cfg0.N) := win0_5.stage (cfg0.slots t 5)
theorem hs5 (t : Fin cfg0.N) : (ms5 t).IsWhole := hstage0_5 ((cfg0.slots t 5).cast nbuf0_5)
abbrev ms6 (t : Fin cfg0.N) := win0_6.stage (cfg0.slots t 6)
theorem hs6 (t : Fin cfg0.N) : (ms6 t).IsWhole := hstage0_6 ((cfg0.slots t 6).cast nbuf0_6)
abbrev ms7 (t : Fin cfg0.N) := win0_7.stage (cfg0.slots t 7)
theorem hs7 (t : Fin cfg0.N) : (ms7 t).IsWhole := hstage0_7 ((cfg0.slots t 7).cast nbuf0_7)
abbrev ms8 (t : Fin cfg0.N) := win0_8.stage (cfg0.slots t 8)
theorem hs8 (t : Fin cfg0.N) : (ms8 t).IsWhole := hstage0_8 ((cfg0.slots t 8).cast nbuf0_8)
abbrev ms9 (t : Fin cfg0.N) := win0_9.stage (cfg0.slots t 9)
theorem hs9 (t : Fin cfg0.N) : (ms9 t).IsWhole := hstage0_9 ((cfg0.slots t 9).cast nbuf0_9)
abbrev scr0 := Memref.whole cc0_scratch0
abbrev scr1 := Memref.whole cc0_scratch1
abbrev scr2 := Memref.whole cc0_scratch2
abbrev scr3 := Memref.whole cc0_scratch3

/-- What the launch hands the region: the scratches and the generator register at anything. -/
theorem phi_eq (c : Dev nD) : (Pipeline.ΦA spec0 c : sProp 𝕄)
    = iprop(iprop((∃ d, owns (c : Thread nD τ) scr0 fullShare d) ∗ (∃ d, owns (c : Thread nD τ) scr1 fullShare d) ∗ (∃ d, owns (c : Thread nD τ) scr2 fullShare d) ∗ (∃ d, owns (c : Thread nD τ) scr3 fullShare d)) ∗ (∃ r, prngReg c r)) := by
  unfold Pipeline.ΦA; rw [scopedRest0_eq]; simp only [scr0, scr1, scr2, scr3, owns_whole]; try rfl

/-- The region invariant before point `k`. -/
def PhiS (c : Dev nD) (k : ℕ) (_ : k ≤ cfg0.N) : sProp 𝕄 :=
  iprop(∃ A, ∃ X, ∃ Z, ∃ L, ⌜Inv m c k A X Z L⌝ ∗ owns (c : Thread nD τ) scr0 fullShare A ∗ owns (c : Thread nD τ) scr1 fullShare X ∗ owns (c : Thread nD τ) scr2 fullShare Z ∗ owns (c : Thread nD τ) scr3 fullShare L ∗ (∃ r, prngReg c r))

/-- The proof data: every input's buffer at its block, the output's at the closed form. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => outFin m c t
  Φ t := PhiS m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem phi_castSucc (c : Dev nD) (t : Fin cfg0.N) : (dats m 0 c).Φ t.castSucc = PhiS m c t.val (Nat.le_of_lt t.isLt) := by
  dsimp only [dats]; exact Pipeline.Dat.Φ_castSucc (PhiS m c) t

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = outFin m c t := by dsimp only [dats]

theorem before_0 (c : Dev nD) (t : Fin cfg0.N) (d) : (dats m 0 c).before 0 t d = iblk m c 0 t := before0_0_of m (dats m 0 c) (A_eq m c 0) (after_0 m c) t d
theorem before_1 (c : Dev nD) (t : Fin cfg0.N) (d) : (dats m 0 c).before 1 t d = iblk m c 1 t := before0_1_of m (dats m 0 c) (A_eq m c 1) (after_1 m c) t d
theorem before_2 (c : Dev nD) (t : Fin cfg0.N) (d) : (dats m 0 c).before 2 t d = iblk m c 2 t := before0_2_of m (dats m 0 c) (A_eq m c 2) (after_2 m c) t d
theorem before_3 (c : Dev nD) (t : Fin cfg0.N) (d) : (dats m 0 c).before 3 t d = iblk m c 3 t := before0_3_of m (dats m 0 c) (A_eq m c 3) (after_3 m c) t d
theorem before_4 (c : Dev nD) (t : Fin cfg0.N) (d) : (dats m 0 c).before 4 t d = iblk m c 4 t := before0_4_of m (dats m 0 c) (A_eq m c 4) (after_4 m c) t d
theorem before_5 (c : Dev nD) (t : Fin cfg0.N) (d) : (dats m 0 c).before 5 t d = iblk m c 5 t := before0_5_of m (dats m 0 c) (A_eq m c 5) (after_5 m c) t d
theorem before_6 (c : Dev nD) (t : Fin cfg0.N) (d) : (dats m 0 c).before 6 t d = iblk m c 6 t := before0_6_of m (dats m 0 c) (A_eq m c 6) (after_6 m c) t d
theorem before_7 (c : Dev nD) (t : Fin cfg0.N) (d) : (dats m 0 c).before 7 t d = iblk m c 7 t := before0_7_of m (dats m 0 c) (A_eq m c 7) (after_7 m c) t d
theorem before_8 (c : Dev nD) (t : Fin cfg0.N) (d) : (dats m 0 c).before 8 t d = iblk m c 8 t := before0_8_of m (dats m 0 c) (A_eq m c 8) (after_8 m c) t d

/-- An input's window is used at every point, and holds its block after it. -/
theorem leaves_0 (c : Dev nD) (t : Fin cfg0.N) : (dats m 0 c).leavesExact 0 t = owns (c : Thread nD τ) (ms0 t) fullShare (iblk m c 0 t) := by
  unfold Dat.leavesExact; rw [show cfg0.idle 0 (grid0.coords t) = false from rfl, after_0]
theorem leaves_1 (c : Dev nD) (t : Fin cfg0.N) : (dats m 0 c).leavesExact 1 t = owns (c : Thread nD τ) (ms1 t) fullShare (iblk m c 1 t) := by
  unfold Dat.leavesExact; rw [show cfg0.idle 1 (grid0.coords t) = false from rfl, after_1]
theorem leaves_2 (c : Dev nD) (t : Fin cfg0.N) : (dats m 0 c).leavesExact 2 t = owns (c : Thread nD τ) (ms2 t) fullShare (iblk m c 2 t) := by
  unfold Dat.leavesExact; rw [show cfg0.idle 2 (grid0.coords t) = false from rfl, after_2]
theorem leaves_3 (c : Dev nD) (t : Fin cfg0.N) : (dats m 0 c).leavesExact 3 t = owns (c : Thread nD τ) (ms3 t) fullShare (iblk m c 3 t) := by
  unfold Dat.leavesExact; rw [show cfg0.idle 3 (grid0.coords t) = false from rfl, after_3]
theorem leaves_4 (c : Dev nD) (t : Fin cfg0.N) : (dats m 0 c).leavesExact 4 t = owns (c : Thread nD τ) (ms4 t) fullShare (iblk m c 4 t) := by
  unfold Dat.leavesExact; rw [show cfg0.idle 4 (grid0.coords t) = false from rfl, after_4]
theorem leaves_5 (c : Dev nD) (t : Fin cfg0.N) : (dats m 0 c).leavesExact 5 t = owns (c : Thread nD τ) (ms5 t) fullShare (iblk m c 5 t) := by
  unfold Dat.leavesExact; rw [show cfg0.idle 5 (grid0.coords t) = false from rfl, after_5]
theorem leaves_6 (c : Dev nD) (t : Fin cfg0.N) : (dats m 0 c).leavesExact 6 t = owns (c : Thread nD τ) (ms6 t) fullShare (iblk m c 6 t) := by
  unfold Dat.leavesExact; rw [show cfg0.idle 6 (grid0.coords t) = false from rfl, after_6]
theorem leaves_7 (c : Dev nD) (t : Fin cfg0.N) : (dats m 0 c).leavesExact 7 t = owns (c : Thread nD τ) (ms7 t) fullShare (iblk m c 7 t) := by
  unfold Dat.leavesExact; rw [show cfg0.idle 7 (grid0.coords t) = false from rfl, after_7]
theorem leaves_8 (c : Dev nD) (t : Fin cfg0.N) : (dats m 0 c).leavesExact 8 t = owns (c : Thread nD τ) (ms8 t) fullShare (iblk m c 8 t) := by
  unfold Dat.leavesExact; rw [show cfg0.idle 8 (grid0.coords t) = false from rfl, after_8]

theorem idle_9 (t : Fin cfg0.N) (h : ¬ k0_cond3 (grid0.coords t) = 1#1) : cfg0.idle 9 (grid0.coords t) = true := by
  show (!(k0_cond3 (grid0.coords t) == 1#1)) = true
  simpa using h

theorem live_9 (t : Fin cfg0.N) (h : k0_cond3 (grid0.coords t) = 1#1) : cfg0.idle 9 (grid0.coords t) = false := by
  show (!(k0_cond3 (grid0.coords t) == 1#1)) = false
  simpa using h

theorem noflush_9 (t : Fin cfg0.N) (h : ¬ k0_cond3 (grid0.coords t) = 1#1) : (cfg0.win 9).flush t = false := by
  rw [Bool.eq_false_iff]
  intro hf
  exact h ((cond3_iff t).mpr (by have := (flush0_9 t).mp hf; have ht : t.val < 32 := Nat.lt_of_lt_of_eq t.isLt N_0; omega))

theorem leaves_9_idle (c : Dev nD) (t : Fin cfg0.N) (h : ¬ k0_cond3 (grid0.coords t) = 1#1) :
    (dats m 0 c).leavesExact 9 t = iprop(∃ d, owns (c : Thread nD τ) (ms9 t) fullShare ((dats m 0 c).before 9 t d)) := by
  unfold Dat.leavesExact; rw [idle_9 t h, noflush_9 t h]

theorem leaves_9_live (c : Dev nD) (t : Fin cfg0.N) (h : k0_cond3 (grid0.coords t) = 1#1) :
    (dats m 0 c).leavesExact 9 t = owns (c : Thread nD τ) (ms9 t) fullShare (outFin m c t) := by
  unfold Dat.leavesExact; rw [live_9 t h, after_9]

/-! ## The body at a point -/

/-- What the body is called with, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t)

/-- The inputs' buffers at their blocks. -/
def ins (c : Dev nD) (t : Fin cfg0.N) : sProp 𝕄 := iprop(owns (c : Thread nD τ) (ms0 t) fullShare (iblk m c 0 t) ∗ owns (c : Thread nD τ) (ms1 t) fullShare (iblk m c 1 t) ∗ owns (c : Thread nD τ) (ms2 t) fullShare (iblk m c 2 t) ∗ owns (c : Thread nD τ) (ms3 t) fullShare (iblk m c 3 t) ∗ owns (c : Thread nD τ) (ms4 t) fullShare (iblk m c 4 t) ∗ owns (c : Thread nD τ) (ms5 t) fullShare (iblk m c 5 t) ∗ owns (c : Thread nD τ) (ms6 t) fullShare (iblk m c 6 t) ∗ owns (c : Thread nD τ) (ms7 t) fullShare (iblk m c 7 t) ∗ owns (c : Thread nD τ) (ms8 t) fullShare (iblk m c 8 t))

/-- The scratches at given contents. -/
def scrs (c : Dev nD) (A : Vec F S4096x4096 .i16) (X : Vec F S4096x128 .f32) (Z : Vec F S16x4096 .f32) (L : Vec F S4096x16 .f32) : sProp 𝕄 :=
  iprop(owns (c : Thread nD τ) scr0 fullShare A ∗ owns (c : Thread nD τ) scr1 fullShare X ∗ owns (c : Thread nD τ) scr2 fullShare Z ∗ owns (c : Thread nD τ) scr3 fullShare L)

theorem pre_open (c : Dev nD) (t : Fin cfg0.N) : bodyPre m c t ⊢ iprop(∃ A, ∃ X, ∃ Z, ∃ L, ⌜Inv m c t.val A X Z L⌝
    ∗ ins m c t ∗ scrs c A X Z L ∗ (∃ d, owns (c : Thread nD τ) (ms9 t) fullShare ((dats m 0 c).before 9 t d)) ∗ (∃ r, prngReg c r) ∗ (dats m 0 c).owesAt () t.castSucc) := by
  unfold bodyPre ins scrs
  rw [phi_castSucc]
  unfold PhiS
  simp only [before_0, before_1, before_2, before_3, before_4, before_5, before_6, before_7, before_8]
  iintro ⟨⟨%A, %X, %Z, %L, %hI, HA, HX, HZ, HL, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, H9⟩
  iexists A; iexists X; iexists Z; iexists L
  isplitr
  · ipureintro; exact hI
  isplitl [H0 H1 H2 H3 H4 H5 H6 H7 H8]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  isplitl [HA HX HZ HL]
  · isplitl [HA]; · iexact HA
    isplitl [HX]; · iexact HX
    isplitl [HZ]; · iexact HZ
    iexact HL
  isplitl [H9]; · iexact H9
  isplitl [Hg]; · iexact Hg
  iexact Ho

theorem post_close (c : Dev nD) (t : Fin cfg0.N) (A : Vec F S4096x4096 .i16) (X : Vec F S4096x128 .f32) (Z : Vec F S16x4096 .f32) (L : Vec F S4096x16 .f32)
    (hI : Inv m c (t.val + 1) A X Z L) :
    iprop(ins m c t ∗ scrs c A X Z L ∗ (dats m 0 c).leavesExact 9 t ∗ (∃ r, prngReg c r) ∗ (dats m 0 c).owesAt () t.castSucc) ⊢ bodyPost m c t := by
  unfold bodyPost ins scrs
  rw [show (dats m 0 c).owesAt () t.succ = (dats m 0 c).owesAt () t.castSucc from rfl, show (dats m 0 c).Φ t.succ = PhiS m c (t.val + 1) t.isLt from rfl]
  rw [leaves_0, leaves_1, leaves_2, leaves_3, leaves_4, leaves_5, leaves_6, leaves_7, leaves_8]
  unfold PhiS
  iintro ⟨⟨H0, H1, H2, H3, H4, H5, H6, H7, H8⟩, ⟨HA, HX, HZ, HL⟩, H9, Hg, Ho⟩
  isplitl [HA HX HZ HL Hg]
  · iexists A; iexists X; iexists Z; iexists L
    isplitr
    · ipureintro; exact hI
    isplitl [HA]; · iexact HA
    isplitl [HX]; · iexact HX
    isplitl [HZ]; · iexact HZ
    isplitl [HL]; · iexact HL
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- A point that leaves the output block alone: from a run of the body over the inputs and the scratches. -/
theorem point_idle (c : Dev nD) (t : Fin cfg0.N) (h3 : ¬ k0_cond3 (grid0.coords t) = 1#1)
    (A A' : Vec F S4096x4096 .i16) (X X' : Vec F S4096x128 .f32) (Z Z' : Vec F S16x4096 .f32) (L L' : Vec F S4096x16 .f32)
    (hI : Inv m c (t.val + 1) A' X' Z' L')
    (run : ∀ K : Unit → sProp 𝕄, iprop(owns (c : Thread nD τ) (ms0 t) fullShare (iblk m c 0 t) ∗ owns (c : Thread nD τ) (ms1 t) fullShare (iblk m c 1 t) ∗ owns (c : Thread nD τ) (ms2 t) fullShare (iblk m c 2 t) ∗ owns (c : Thread nD τ) (ms3 t) fullShare (iblk m c 3 t) ∗ owns (c : Thread nD τ) (ms4 t) fullShare (iblk m c 4 t) ∗ owns (c : Thread nD τ) (ms5 t) fullShare (iblk m c 5 t) ∗ owns (c : Thread nD τ) (ms6 t) fullShare (iblk m c 6 t) ∗ owns (c : Thread nD τ) (ms7 t) fullShare (iblk m c 7 t) ∗ owns (c : Thread nD τ) (ms8 t) fullShare (iblk m c 8 t) ∗ owns (c : Thread nD τ) scr0 fullShare A ∗ owns (c : Thread nD τ) scr1 fullShare X ∗ owns (c : Thread nD τ) scr2 fullShare Z ∗ owns (c : Thread nD τ) scr3 fullShare L
      ∗ (iprop(owns (c : Thread nD τ) (ms0 t) fullShare (iblk m c 0 t) ∗ owns (c : Thread nD τ) (ms1 t) fullShare (iblk m c 1 t) ∗ owns (c : Thread nD τ) (ms2 t) fullShare (iblk m c 2 t) ∗ owns (c : Thread nD τ) (ms3 t) fullShare (iblk m c 3 t) ∗ owns (c : Thread nD τ) (ms4 t) fullShare (iblk m c 4 t) ∗ owns (c : Thread nD τ) (ms5 t) fullShare (iblk m c 5 t) ∗ owns (c : Thread nD τ) (ms6 t) fullShare (iblk m c 6 t) ∗ owns (c : Thread nD τ) (ms7 t) fullShare (iblk m c 7 t) ∗ owns (c : Thread nD τ) (ms8 t) fullShare (iblk m c 8 t) ∗ owns (c : Thread nD τ) scr0 fullShare A' ∗ owns (c : Thread nD τ) scr1 fullShare X' ∗ owns (c : Thread nD τ) scr2 fullShare Z' ∗ owns (c : Thread nD τ) scr3 fullShare L') -∗ K ⟨⟩))
      ⊢ wp frame (wpE (defs₀ (F := F)) Variants.none c none) Set.univ (bodyAt0 t) K) :
    iprop(ins m c t ∗ scrs c A X Z L ∗ (∃ d, owns (c : Thread nD τ) (ms9 t) fullShare ((dats m 0 c).before 9 t d)) ∗ (∃ r, prngReg c r) ∗ (dats m 0 c).owesAt () t.castSucc)
      ⊢ wp frame (wpE (defs₀ (F := F)) Variants.none c none) Set.univ (bodyAt0 t) (fun _ => bodyPost m c t) := by
  have close := post_close m c t A' X' Z' L' hI
  rw [leaves_9_idle m c t h3] at close
  unfold ins scrs at close ⊢
  iintro ⟨⟨H0, H1, H2, H3, H4, H5, H6, H7, H8⟩, ⟨HA, HX, HZ, HL⟩, H9, Hg, Ho⟩
  iapply (run _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [HA]; · iexact HA
  isplitl [HX]; · iexact HX
  isplitl [HZ]; · iexact HZ
  isplitl [HL]; · iexact HL
  iintro ⟨H0, H1, H2, H3, H4, H5, H6, H7, H8, HA, HX, HZ, HL⟩
  iapply close
  isplitl [H0 H1 H2 H3 H4 H5 H6 H7 H8]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  isplitl [HA HX HZ HL]
  · isplitl [HA]; · iexact HA
    isplitl [HX]; · iexact HX
    isplitl [HZ]; · iexact HZ
    iexact HL
  isplitl [H9]; · iexact H9
  isplitl [Hg]; · iexact Hg
  iexact Ho

/-- The last point, which writes the output block. -/
theorem point_last (c : Dev nD) (t : Fin cfg0.N) (h0 : ¬ cond0 (grid0.coords t)) (h2 : k0_cond2 (grid0.coords t) = 1#1) (h3 : k0_cond3 (grid0.coords t) = 1#1)
    (A : Vec F S4096x4096 .i16) (X : Vec F S4096x128 .f32) (Z : Vec F S16x4096 .f32) (L : Vec F S4096x16 .f32) (hI : Inv m c t.val A X Z L) :
    iprop(ins m c t ∗ scrs c A X Z L ∗ (∃ d, owns (c : Thread nD τ) (ms9 t) fullShare ((dats m 0 c).before 9 t d)) ∗ (∃ r, prngReg c r) ∗ (dats m 0 c).owesAt () t.castSucc)
      ⊢ wp frame (wpE (defs₀ (F := F)) Variants.none c none) Set.univ (bodyAt0 t) (fun _ => bodyPost m c t) := by
  have hI' := inv_high m c t A X Z L (fun h => h0 ((cond0_iff t).mpr h)) h2 hI
  have close := post_close m c t _ _ _ _ hI'
  rw [leaves_9_live m c t h3, ← inv_out m c t _ _ _ _ ((cond3_iff t).mp h3) hI'] at close
  unfold ins scrs at close ⊢
  iintro ⟨⟨H0, H1, H2, H3, H4, H5, H6, H7, H8⟩, ⟨HA, HX, HZ, HL⟩, ⟨%d9, H9⟩, Hg, Ho⟩
  iapply (run_last c (grid0.coords t) h0 h2 h3 (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) scr0 (Memref.isWhole_whole _) scr1 (Memref.isWhole_whole _) scr2 (Memref.isWhole_whole _) scr3 (Memref.isWhole_whole _) (iblk m c 0 t) (iblk m c 1 t) (iblk m c 2 t) (iblk m c 3 t) (iblk m c 4 t) (iblk m c 5 t) (iblk m c 6 t) (iblk m c 7 t) (iblk m c 8 t) A X Z L Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [HA]; · iexact HA
  isplitl [HX]; · iexact HX
  isplitl [HZ]; · iexact HZ
  isplitl [HL]; · iexact HL
  iintro ⟨H0, H1, H2, H3, H4, H5, H6, H7, H8, H9, HA, HX, HZ, HL⟩
  iapply close
  isplitl [H0 H1 H2 H3 H4 H5 H6 H7 H8]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  isplitl [HA HX HZ HL]
  · isplitl [HA]; · iexact HA
    isplitl [HX]; · iexact HX
    isplitl [HZ]; · iexact HZ
    iexact HL
  isplitl [H9]; · iexact H9
  isplitl [Hg]; · iexact Hg
  iexact Ho

theorem point_any (c : Dev nD) (t : Fin cfg0.N) (A : Vec F S4096x4096 .i16) (X : Vec F S4096x128 .f32) (Z : Vec F S16x4096 .f32) (L : Vec F S4096x16 .f32)
    (hI : Inv m c t.val A X Z L) :
    iprop(ins m c t ∗ scrs c A X Z L ∗ (∃ d, owns (c : Thread nD τ) (ms9 t) fullShare ((dats m 0 c).before 9 t d)) ∗ (∃ r, prngReg c r) ∗ (dats m 0 c).owesAt () t.castSucc)
      ⊢ wp frame (wpE (defs₀ (F := F)) Variants.none c none) Set.univ (bodyAt0 t) (fun _ => bodyPost m c t) := by
  by_cases h0 : t.val = 0
  · have c0 : cond0 (grid0.coords t) := (cond0_iff t).mpr h0
    have h2 : ¬ k0_cond2 (grid0.coords t) = 1#1 := fun h => by have := (cond2_iff t).mp h; omega
    have h3 : ¬ k0_cond3 (grid0.coords t) = 1#1 := fun h => by have := (cond3_iff t).mp h; omega
    exact point_idle m c t h3 A _ X _ Z _ L _ (inv_first m c t A X Z L h0 hI)
      (run_first c (grid0.coords t) c0 h2 h3 (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) scr0 (Memref.isWhole_whole _) scr1 (Memref.isWhole_whole _) scr2 (Memref.isWhole_whole _) scr3 (Memref.isWhole_whole _) (iblk m c 0 t) (iblk m c 1 t) (iblk m c 2 t) (iblk m c 3 t) (iblk m c 4 t) (iblk m c 5 t) (iblk m c 6 t) (iblk m c 7 t) (iblk m c 8 t) A X Z L Set.univ)
  · have c0 : ¬ cond0 (grid0.coords t) := fun h => h0 ((cond0_iff t).mp h)
    by_cases h2 : k0_cond2 (grid0.coords t) = 1#1
    · by_cases h3 : k0_cond3 (grid0.coords t) = 1#1
      · exact point_last m c t c0 h2 h3 A X Z L hI
      · exact point_idle m c t h3 A _ X _ Z _ L _ (inv_high m c t A X Z L h0 h2 hI)
          (run_high c (grid0.coords t) c0 h2 h3 (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) scr0 (Memref.isWhole_whole _) scr1 (Memref.isWhole_whole _) scr2 (Memref.isWhole_whole _) scr3 (Memref.isWhole_whole _) (iblk m c 0 t) (iblk m c 1 t) (iblk m c 2 t) (iblk m c 3 t) (iblk m c 4 t) (iblk m c 5 t) (iblk m c 6 t) (iblk m c 7 t) (iblk m c 8 t) A X Z L Set.univ)
    · have h3 : ¬ k0_cond3 (grid0.coords t) = 1#1 := fun h => h2 ((cond2_iff t).mpr (by have := (cond3_iff t).mp h; omega))
      exact point_idle m c t h3 A _ X _ Z _ L _ (inv_low m c t A X Z L h0 h2 hI)
        (run_low c (grid0.coords t) c0 h2 h3 (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) scr0 (Memref.isWhole_whole _) scr1 (Memref.isWhole_whole _) scr2 (Memref.isWhole_whole _) scr3 (Memref.isWhole_whole _) (iblk m c 0 t) (iblk m c 1 t) (iblk m c 2 t) (iblk m c 3 t) (iblk m c 4 t) (iblk m c 5 t) (iblk m c 6 t) (iblk m c 7 t) (iblk m c 8 t) A X Z L Set.univ)

theorem sound_body (c : Dev nD) (t : Fin cfg0.N) :
    bodyPre m c t ⊢ wp frame (wpE (defs₀ (F := F)) Variants.none c none) Set.univ (bodyAt0 t) (fun _ => bodyPost m c t) := by
  refine (pre_open m c t).trans ?_
  iintro ⟨%A, %X, %Z, %L, %hI, H⟩
  iapply (point_any m c t A X Z L hI)
  iexact H

theorem defs_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, phi_eq]
  unfold PhiS
  iintro ⟨⟨⟨%A, HA⟩, ⟨%X, HX⟩, ⟨%Z, HZ⟩, ⟨%L, HL⟩⟩, Hg⟩
  iexists A; iexists X; iexists Z; iexists L
  isplitr
  · ipureintro; exact inv_start m c A X Z L
  isplitl [HA]; · iexact HA
  isplitl [HX]; · iexact HX
  isplitl [HZ]; · iexact HZ
  isplitl [HL]; · iexact HL
  iexact Hg

theorem hout (c : Dev nD) : (dats m 0 c).Φ (Fin.last cfg0.N) ⊢ Pipeline.ΦA spec0 c := by
  rw [show (dats m 0 c).Φ (Fin.last cfg0.N) = PhiS m c cfg0.N (Nat.le_refl _) from rfl, phi_eq]
  unfold PhiS
  iintro ⟨%A, %X, %Z, %L, %hI, HA, HX, HZ, HL, Hg⟩
  isplitl [HA HX HZ HL]
  · isplitl [HA]; · iexists _; iexact HA
    isplitl [HX]; · iexists _; iexact HX
    isplitl [HZ]; · iexists _; iexact HZ
    iexists _; iexact HL
  iexact Hg

/-! ## The run and the frame -/

-- the launch theorem's implicit arguments are found by unifying its conclusion with this one, which takes unfolding plain
-- definitions in a metavariable's type
set_option backward.isDefEq.respectTransparency.types false in
theorem run_quiescent : θ_run defs (onTc (τ := τ) (main (F := F))) (s₀ m ρ) (fun r => Pipeline.FramePost cfgs (dats m) (0 : Fin 1) (V m) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) (0 : Fin 1) (V m)) :=
  (θ_run defs _ _).mono (fun _ h => h.1) (run_quiescent m ρ)

/-- Every execution ends, with the argument arrays unchanged and every semaphore at zero. -/
theorem frame_holds : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (frame_of m ρ (dats m) (A_eq m) (run_main m ρ)) ((θ_run defs _ _).mono (fun _ h => h.2) (run_quiescent m ρ))

end Cert.KernelIdeal.Own

end
-- ==== Proof.KI.Numbers.lean ====
/- The facts about numbers the value claim rests on: finite numbers stay finite through sums and products, the two
   ways of folding agree on finite numbers, the two ways of rounding to a 16-bit range agree, and a positive finite
   factor passes through a sum. -/
module

public import Idealize.ShloMosaic.PureOps.Ideal
public import Idealize.ShloMosaic.PureOps.Ideal.Laws
public import Idealize.ShloMosaic.Lib.IdealHost

@[expose] public section

noncomputable section

namespace Cert.KernelIdeal.Own

open Idealize.ShloMosaic

/-- A finite number. -/
def Fine (x : EReal) : Prop := ∃ r : ℝ, x = (r : EReal)

theorem Fine.add {x y : EReal} (hx : Fine x) (hy : Fine y) : Fine (x + y) := by
  obtain ⟨a, rfl⟩ := hx; obtain ⟨b, rfl⟩ := hy; exact ⟨a + b, by norm_cast⟩

theorem Fine.sub {x y : EReal} (hx : Fine x) (hy : Fine y) : Fine (x - y) := by
  obtain ⟨a, rfl⟩ := hx; obtain ⟨b, rfl⟩ := hy; exact ⟨a - b, by norm_cast⟩

theorem Fine.mul {x y : EReal} (hx : Fine x) (hy : Fine y) : Fine (x * y) := by
  obtain ⟨a, rfl⟩ := hx; obtain ⟨b, rfl⟩ := hy; exact ⟨a * b, by norm_cast⟩

theorem Fine.sum {ι : Type} (s : Finset ι) (f : ι → EReal) (h : ∀ i, Fine (f i)) : Fine (∑ i ∈ s, f i) := by
  classical
  induction s using Finset.induction_on with
  | empty => exact ⟨0, by simp⟩
  | insert a s ha ih => rw [Finset.sum_insert ha]; exact (h a).add ih

theorem fine_of_between {x a b : EReal} (ha : Fine a) (hb : Fine b) (h1 : a ≤ x) (h2 : x ≤ b) : Fine x := by
  obtain ⟨p, rfl⟩ := ha; obtain ⟨q, rfl⟩ := hb
  induction x using EReal.rec with
  | bot => exact absurd (le_bot_iff.mp h1) (EReal.coe_ne_bot p)
  | top => exact absurd (top_le_iff.mp h2) (EReal.coe_ne_top q)
  | coe r => exact ⟨r, rfl⟩

/-- A clipped number is finite. -/
theorem fine_clip (x : EReal) : Fine (min 1 (max 0 x)) :=
  fine_of_between ⟨0, by simp⟩ ⟨1, by simp⟩ (le_min (by norm_num) (le_max_left _ _)) (min_le_left _ _)

theorem fine_of_abs {x : EReal} (h : max x (-x) < ⊤) : Fine x := by
  induction x using EReal.rec with
  | bot => simp at h
  | top => simp at h
  | coe r => exact ⟨r, rfl⟩

/-- Moving towards `a` by the fraction `l`, twice, is the weighted mean, twice. -/
theorem fold_eq {l a0 a1 a2 : EReal} (hl : Fine l) (h0 : Fine a0) (h1 : Fine a1) (h2 : Fine a2) :
    a0 + l * (a1 - a0) + l * (a2 - (a0 + l * (a1 - a0))) = (1 - l) * ((1 - l) * a0 + l * a1) + l * a2 := by
  obtain ⟨l, rfl⟩ := hl; obtain ⟨a0, rfl⟩ := h0; obtain ⟨a1, rfl⟩ := h1; obtain ⟨a2, rfl⟩ := h2
  have : (a0 + l * (a1 - a0) + l * (a2 - (a0 + l * (a1 - a0))) : ℝ) = (1 - l) * ((1 - l) * a0 + l * a1) + l * a2 := by ring
  exact_mod_cast this

theorem lit_scale : Ideal.ofBits .f32 0x46FFFE00#32 = ((32767 : ℝ) : EReal) := by
  simp [Ideal.ofBits, Ideal.ieee, -EReal.coe_mul]; norm_num

theorem lit_low : Ideal.ofBits .f32 0xC7000000#32 = ((-32768 : ℝ) : EReal) := by
  simp [Ideal.ofBits, Ideal.ieee, -EReal.coe_mul, -EReal.coe_neg]; norm_num

theorem fine_half : Fine (Ideal.ofBits .f32 0x3EFF7CEE#32) := by
  refine ⟨16743662 * (2 ^ 25)⁻¹, ?_⟩
  simp [Ideal.ofBits, Ideal.ieee]

/-- Rounding towards zero into 16 bits, which saturates, is clipping to the range first and rounding into 32 bits. -/
theorem round_eq {v : EReal} (hv : Fine v) :
    ((Ideal.fptosi 16 v).toInt : ℤ) = (Ideal.fptosi 32 (min ((32767 : ℝ) : EReal) (max ((-32768 : ℝ) : EReal) v))).toInt := by
  obtain ⟨r, rfl⟩ := hv
  have e : min ((32767 : ℝ) : EReal) (max ((-32768 : ℝ) : EReal) (r : EReal)) = ((min 32767 (max (-32768) r) : ℝ) : EReal) := by
    rw [EReal.coe_strictMono.monotone.map_min, EReal.coe_strictMono.monotone.map_max]
  rw [e]
  unfold Ideal.fptosi
  simp only [Ideal.toIntClamped_coe]
  have t16 : ∀ n : ℤ, -32768 ≤ n → n ≤ 32767 → n.bmod 65536 = n := fun n h1 h2 => by
    exact Int.bmod_eq_of_le (by norm_num; omega) (by norm_num; omega)
  have t32 : ∀ n : ℤ, -32768 ≤ n → n ≤ 32767 → n.bmod 4294967296 = n := fun n h1 h2 => by
    exact Int.bmod_eq_of_le (by norm_num; omega) (by norm_num; omega)
  norm_num only [BitVec.toInt_ofInt]
  rcases lt_or_ge r (-32768) with h | h
  · have e1 : min (32767 : ℝ) (max (-32768) r) = -32768 := by rw [max_eq_left h.le]; norm_num
    have c1 : ⌈r⌉ ≤ -32768 := Int.ceil_le.mpr (by push_cast; exact h.le)
    have c2 : ⌈(-32768 : ℝ)⌉ = -32768 := by exact_mod_cast Int.ceil_intCast (R := ℝ) (-32768)
    rw [e1, if_neg (show ¬ (0 : ℝ) ≤ r from not_le.mpr (by linarith)), if_neg (show ¬ (0 : ℝ) ≤ -32768 by norm_num), c2, t16 _ (by omega) (by omega), t32 _ (by omega) (by omega)]
    omega
  rcases lt_or_ge 32767 r with h' | h'
  · have e1 : min (32767 : ℝ) (max (-32768) r) = 32767 := by rw [max_eq_right h, min_eq_left h'.le]
    have c1 : 32767 ≤ ⌊r⌋ := Int.le_floor.mpr (by push_cast; exact h'.le)
    have c2 : ⌊(32767 : ℝ)⌋ = 32767 := by exact_mod_cast Int.floor_intCast (R := ℝ) 32767
    rw [e1, if_pos (show (0 : ℝ) ≤ r by linarith), if_pos (show (0 : ℝ) ≤ 32767 by norm_num), c2, t16 _ (by omega) (by omega), t32 _ (by omega) (by omega)]
    omega
  have e1 : min (32767 : ℝ) (max (-32768) r) = r := by rw [max_eq_right h, min_eq_right h']
  have lo : -32768 ≤ (if 0 ≤ r then ⌊r⌋ else ⌈r⌉) := by
    split
    · exact Int.le_floor.mpr (by push_cast; exact h)
    · exact_mod_cast h.trans (Int.le_ceil r)
  have hi : (if 0 ≤ r then ⌊r⌋ else ⌈r⌉) ≤ 32767 := by
    split
    · exact_mod_cast (Int.floor_le r).trans h'
    · exact Int.ceil_le.mpr (by push_cast; exact h')
  rw [e1]
  generalize (if 0 ≤ r then ⌊r⌋ else ⌈r⌉) = n at lo hi ⊢
  rw [t16 _ (by omega) (by omega), t32 _ (by omega) (by omega)]
  omega

/-- A nonnegative finite factor passes through a sum. -/
theorem sum_scale {ι : Type} (s : Finset ι) (f : ι → EReal) (k : ℝ) (hk : 0 ≤ k) : (∑ i ∈ s, f i) * (k : EReal) = ∑ i ∈ s, f i * (k : EReal) := by
  classical
  induction s using Finset.induction_on with
  | empty => simp
  | insert a s ha ih =>
    rw [Finset.sum_insert ha, Finset.sum_insert ha, ← ih]
    exact EReal.right_distrib_of_nonneg_of_ne_top (by exact_mod_cast hk) (EReal.coe_ne_top k) _ _

theorem max_fold (b : EReal) {n : ℕ} (f : Fin n → EReal) : max b (Finset.univ.fold max b f) = Finset.univ.fold max b f :=
  max_eq_right (Finset.le_fold_max b |>.mpr (Or.inl le_rfl))

end Cert.KernelIdeal.Own

end
-- ==== Proof.KI.Stages.lean ====
/- The reference's stages read at one position: the graph's mixing weight, the folded graph, its rounded words, the
   two layers, the logits and the softmax. -/
module

public import proofs.«01_k».proof.Proof.Gen.ReferenceIdeal.Read
public import proofs.«01_k».proof.Proof.KI.Numbers
public import Idealize.ShloMosaic.Lib.Pointwise

@[expose] public section

set_option maxRecDepth 16384

noncomputable section

namespace Cert.Graph

open Idealize.ShloMosaic

/-- The mixing weight of an edge, from one row of the left features and all rows of the right ones. -/
def weight (lam : (⟨2, ![16, 16]⟩ : Shape).Idx → EReal) (l : Fin 16 → EReal)
    (h : (⟨2, ![4096, 16]⟩ : Shape).Idx → EReal) (j : Fin 4096) : EReal :=
  ∑ x : Fin 16, (∑ y : Fin 16, l y * min 1 (max 0 (lam (ix2 y x)))) * h (ix2 j x)

/-- One row of a softmax over sixteen classes. -/
def soft (f : Fin 16 → EReal) (o : Fin 16) : EReal :=
  Ideal.div (Ideal.exp (f o - Finset.univ.fold max (Ideal.ofBits .f32 0xFF800000#32) f))
    (∑ x : Fin 16, Ideal.exp (f x - Finset.univ.fold max (Ideal.ofBits .f32 0xFF800000#32) f))

end Cert.Graph

namespace Cert.ReferenceIdeal.Own

open Idealize.ShloMosaic Idealize.ShloMosaic.TcCoe Idealize.SL.Sem
open Cert.ReferenceIdeal Cert.ReferenceIdeal.Gen Cert.ReferenceIdeal.Read Cert.Graph
open Cert.KernelIdeal.Own (Fine max_fold fold_eq)

variable (x0 : FVec Ideal S4096x3x128 .f32) (x1 : FVec Ideal S3x4096x4096 .f32) (x2 : FVec Ideal S16x16 .f32)
  (x3 : FVec Ideal S4096x16 .f32) (x4 : FVec Ideal S128x128 .f32) (x5 : FVec Ideal S128 .f32)
  (x6 : FVec Ideal S128x16 .f32) (x7 : FVec Ideal S16 .f32)

theorem lit_one : constant (F := Ideal) S_ .f32 1065353216#32 ix0 = (1 : EReal) := by
  show Ideal.ofBits .f32 1065353216#32 = 1
  simp [Ideal.ofBits, Ideal.ieee, -EReal.coe_mul]
  norm_num

theorem lit_zero : constant (F := Ideal) S_ .f32 0#32 ix0 = (0 : EReal) := by
  show Ideal.ofBits .f32 0#32 = 0
  simp [Ideal.ofBits, Ideal.ieee, -EReal.coe_mul]

theorem weight_eq (i j : Fin 4096) :
    val_main_v3 (F := Ideal) x2 x3 (ix2 i j) = weight x2 (fun y => x3 (ix2 i y)) x3 j := by
  unfold weight
  pointwise [val_main_v3, val_main_v2, val_main_v1, val_main_v0, val_main_call0_v4, val_main_call0_v3,
    val_main_call0_v2, val_main_call0_v1, val_main_call0_v0, val_main_cst_0, val_main_cst]
  simp only [id, lit_one, lit_zero]

theorem fold_at (i j : Fin 4096) :
    val_main_v19 (F := Ideal) x1 x2 x3 (ix2 i j)
      = (1 - val_main_v3 (F := Ideal) x2 x3 (ix2 i j)) * ((1 - val_main_v3 (F := Ideal) x2 x3 (ix2 i j)) * x1 (ix3 0 i j)
          + val_main_v3 (F := Ideal) x2 x3 (ix2 i j) * x1 (ix3 1 i j))
        + val_main_v3 (F := Ideal) x2 x3 (ix2 i j) * x1 (ix3 2 i j) := by
  pointwise [val_main_v19, val_main_v18, val_main_v17, val_main_v16, val_main_v15, val_main_v14, val_main_v13,
    val_main_v12, val_main_v11, val_main_v10, val_main_v9, val_main_v8, val_main_v7, val_main_v6, val_main_v5,
    val_main_v4, val_main_cst_1, val_main_cst_2]

theorem word_at (i j : Fin 4096) :
    val_main_v34 (F := Ideal) x1 x2 x3 (ix2 i j)
      = FloatOps.sitofp (F := Ideal) .f32 (Ideal.fptosi 32 (min (Ideal.ofBits .f32 0x46FFFE00#32) (max (Ideal.ofBits .f32 0xC7000000#32)
          (val_main_v19 (F := Ideal) x1 x2 x3 (ix2 i j) * Ideal.ofBits .f32 0x46FFFE00#32 + Ideal.ofBits .f32 0x3EFF7CEE#32)))) := by
  pointwise [val_main_v34, val_main_v33, val_main_v32, val_main_v31, val_main_v30, val_main_v29, val_main_v28,
    val_main_call2_v4, val_main_call2_v3, val_main_call2_v2, val_main_call2_v1, val_main_call2_v0, val_main_cst_3,
    val_main_cst_4, val_main_cst_5, val_main_cst_6]
  rfl

theorem feat_at (i : Fin 4096) (j : Fin 128) :
    val_main_v22 (F := Ideal) x0 x4 (ix2 i j) = ∑ x : Fin 128, x0 (ix3 i 2 x) * x4 (ix2 x j) := by
  pointwise [val_main_v22, val_main_v21, val_main_v20]

theorem hidden_at (i : Fin 4096) (o : Fin 16) :
    val_main_v37 (F := Ideal) x0 x1 x2 x3 x4 x5 x6 (ix2 i o)
      = ∑ x : Fin 128, max (∑ y : Fin 4096, val_main_v19 (F := Ideal) x1 x2 x3 (ix2 i y)
          * val_main_v22 (F := Ideal) x0 x4 (ix2 y x) + x5 (ix1 x)) 0 * x6 (ix2 x o) := by
  pointwise [val_main_v37, val_main_v27, val_main_v26, val_main_v25, val_main_v24, val_main_v23, val_main_call1_v0,
    val_main_call1_cst]

theorem logit_at (i : Fin 4096) (o : Fin 16) :
    val_main_v41 (F := Ideal) x0 x1 x2 x3 x4 x5 x6 x7 (ix2 i o)
      = ∑ x : Fin 4096, Ideal.div (val_main_v34 (F := Ideal) x1 x2 x3 (ix2 i x)) (Ideal.ofBits .f32 0x46FFFE00#32)
          * val_main_v37 (F := Ideal) x0 x1 x2 x3 x4 x5 x6 (ix2 x o) + x7 (ix1 o) := by
  pointwise [val_main_v41, val_main_v40, val_main_v39, val_main_v38, val_main_v36, val_main_v35, val_main_cst_7]

theorem soft_at (i : Fin 4096) (o : Fin 16) :
    val_main_v52 (F := Ideal) x0 x1 x2 x3 x4 x5 x6 x7 (ix2 i o)
      = soft (fun x => val_main_v41 (F := Ideal) x0 x1 x2 x3 x4 x5 x6 x7 (ix2 i x)) o := by
  unfold soft
  pointwise [val_main_v52, val_main_v51, val_main_v50, val_main_v49, val_main_v48, val_main_v47, val_main_v46,
    val_main_v45, val_main_v44, val_main_v43, val_main_v42, val_main_cst_8, val_main_cst_9, val_main_cst_10]
  simp only [max_fold]

end Cert.ReferenceIdeal.Own
-- ==== Proof.KI.Pure.lean ====
/- What the kernel's pieces compute, at one position each: the folded block, its words, the feature product, the
   hidden layer, the logits of a row and the softmax of a row. -/
module

public import proofs.«01_k».proof.Proof.KI.State
public import proofs.«01_k».proof.Proof.KI.Stages

@[expose] public section

set_option maxRecDepth 16384

noncomputable section

namespace Cert.KernelIdeal.Own

open Idealize.ShloMosaic Idealize.ShloMosaic.TcCoe Idealize.SL.Sem
open Cert.KernelIdeal Cert.KernelIdeal.Gen Cert.Graph

theorem plane_at (x1 : Vec Ideal S3x128x4096 .f32) (k : ℕ) (hk : k < 3) (r : Fin 128) (j : Fin 4096) :
    plane x1 k hk (ix3 0 r j) = x1 (ix3 ⟨k, hk⟩ r j) := by
  refine congrArg x1 (funext fun a => ?_)
  fin_cases a <;> refine Fin.ext ?_
  · show k + 1 * 0 = k; omega
  · show 0 + 1 * r.val = r.val; omega
  · show 0 + 1 * j.val = j.val; omega

theorem mix_at (lam : Vec Ideal S16x16 .f32) (l : Vec Ideal S128x16 .f32) (h : Vec Ideal S4096x16 .f32)
    (p0 p1 p2 : Vec Ideal S1x128x4096 .f32) (r : Fin 128) (j : Fin 4096) :
    k0_pay56 lam l h p0 p1 p2 (ix2 r j)
      = p0 (ix3 0 r j) + weight lam (fun y => l (ix2 r y)) h j * (p1 (ix3 0 r j) - p0 (ix3 0 r j))
        + weight lam (fun y => l (ix2 r y)) h j * (p2 (ix3 0 r j)
          - (p0 (ix3 0 r j) + weight lam (fun y => l (ix2 r y)) h j * (p1 (ix3 0 r j) - p0 (ix3 0 r j)))) := by
  unfold weight
  pointwise [k0_pay56]

theorem foldOf_at (x1 : Vec Ideal S3x128x4096 .f32) (x2 : Vec Ideal S128x16 .f32) (x3 : Vec Ideal S4096x16 .f32)
    (x4 : Vec Ideal S16x16 .f32) (r : Fin 128) (j : Fin 4096) :
    foldOf x1 x2 x3 x4 (ix2 r j)
      = x1 (ix3 0 r j) + weight x4 (fun y => x2 (ix2 r y)) x3 j * (x1 (ix3 1 r j) - x1 (ix3 0 r j))
        + weight x4 (fun y => x2 (ix2 r y)) x3 j * (x1 (ix3 2 r j)
          - (x1 (ix3 0 r j) + weight x4 (fun y => x2 (ix2 r y)) x3 j * (x1 (ix3 1 r j) - x1 (ix3 0 r j)))) := by
  have e0 : plane x1 0 (by decide) (ix3 0 r j) = x1 (ix3 0 r j) := plane_at x1 0 _ r j
  have e1 : plane x1 1 (by decide) (ix3 0 r j) = x1 (ix3 1 r j) := plane_at x1 1 _ r j
  have e2 : plane x1 2 (by decide) (ix3 0 r j) = x1 (ix3 2 r j) := plane_at x1 2 _ r j
  rw [← e0, ← e1, ← e2]
  exact mix_at x4 x2 x3 _ _ _ r j

theorem word_mix (lam : Vec Ideal S16x16 .f32) (l : Vec Ideal S128x16 .f32) (h : Vec Ideal S4096x16 .f32)
    (p0 p1 p2 : Vec Ideal S1x128x4096 .f32) (r : Fin 128) (j : Fin 4096) :
    k0_pay1 (k0_pay57 lam l h p0 p1 p2) (ix2 r j)
      = Ideal.fptosi 16 (k0_pay56 lam l h p0 p1 p2 (ix2 r j) * Ideal.ofBits .f32 0x46FFFE00#32
        + Ideal.ofBits .f32 0x3EFF7CEE#32) := by
  pointwise [k0_pay1, k0_pay57]
  rfl

theorem wordOf_at (x1 : Vec Ideal S3x128x4096 .f32) (x2 : Vec Ideal S128x16 .f32) (x3 : Vec Ideal S4096x16 .f32)
    (x4 : Vec Ideal S16x16 .f32) (r : Fin 128) (j : Fin 4096) :
    wordOf x1 x2 x3 x4 (ix2 r j) = Ideal.fptosi 16 (foldOf x1 x2 x3 x4 (ix2 r j) * Ideal.ofBits .f32 0x46FFFE00#32
      + Ideal.ofBits .f32 0x3EFF7CEE#32) := by
  exact word_mix x4 x2 x3 _ _ _ r j

theorem xw_at (x : Vec Ideal S4096x128 .f32) (w : Vec Ideal S128x128 .f32) (r : Fin 4096) (o : Fin 128) :
    k0_pay54 x w (ix2 r o) = ∑ y : Fin 128, x (ix2 r y) * w (ix2 y o) := by
  pointwise [k0_pay54]

theorem hidden_at (p : FVec Ideal S128x4096 .f32) (X : Vec Ideal S4096x128 .f32) (b : Vec Ideal S1x128 .f32)
    (W : Vec Ideal S128x16 .f32) (o : Fin 16) (r : Fin 128) :
    k0_pay2 p X b W (ix2 o r)
      = ∑ x : Fin 128, max (∑ y : Fin 4096, p (ix2 r y) * X (ix2 y x) + b (ix2 0 x)) 0 * W (ix2 x o) := by
  pointwise [k0_pay2]

theorem zeros_at (r : Fin 4096) (o : Fin 16) : k0_pay55 (F := Ideal) (ix2 r o) = (0 : EReal) := by
  pointwise [k0_pay55]

theorem half_at (q : Vec Ideal S128x2048 .i16) (l : Vec Ideal S128x16 .f32) (z : Vec Ideal S16x2048 .f32)
    (r : Fin 128) (o : Fin 16) :
    k0_pay3 q l z (ix2 r o)
      = l (ix2 r o) + ∑ x : Fin 2048, FloatOps.sitofp (F := Ideal) .f32 (q (ix2 r x)) * z (ix2 o x) := by
  pointwise [k0_pay3]

/-- The inverse scale, named. -/
def invScale : EReal := ((1 / 32767 : ℝ) : EReal)

theorem rowHi_at (q : Vec Ideal S128x4096 .i16) (z : Vec Ideal S16x4096 .f32) (b : Vec Ideal S1x16 .f32)
    (r : Fin 128) (o : Fin 16) :
    rowHi q z b (ix2 r o) = soft (fun x => (∑ y : Fin 4096, FloatOps.sitofp (F := Ideal) .f32 (q (ix2 r y)) * z (ix2 x y))
      * invScale + b (ix2 0 x)) o := by
  have hk : Named.named (F := Ideal) (φ := .f32) κ "inv_scale" 939524352#32 = invScale :=
    IdealRules.named_const.ideal_named_scalar _ _ _ _ rfl
  unfold rowHi soft
  rw [← hk]
  pointwise [k0_pay5]

theorem rowLo_at (q : Vec Ideal S128x2048 .i16) (z : Vec Ideal S16x2048 .f32) (l : Vec Ideal S128x16 .f32)
    (b : Vec Ideal S1x16 .f32) (r : Fin 128) (o : Fin 16) :
    rowLo q z l b (ix2 r o) = soft (fun x => (∑ y : Fin 2048, FloatOps.sitofp (F := Ideal) .f32 (q (ix2 r y)) * z (ix2 x y)
      + l (ix2 r x)) * invScale + b (ix2 0 x)) o := by
  have hk : Named.named (F := Ideal) (φ := .f32) κ "inv_scale" 939524352#32 = invScale :=
    IdealRules.named_const.ideal_named_scalar _ _ _ _ rfl
  unfold rowLo soft
  rw [← hk]
  pointwise [k0_pay6]

end Cert.KernelIdeal.Own
-- ==== Proof.KI.Value.lean ====
/- The kernel's output array is the reference's result: every piece of the scratch stores is a stage of the reference,
   read at the position it stands for. -/
module

public import proofs.«01_k».proof.Proof.KI.Pure
public import proofs.«01_k».proof.Proof.KI.Run
public import Idealize.ShloMosaic.Lib.Pipeline.ValueKit
public import Idealize.ShloMosaic.Lib.Claim

@[expose] public section

set_option maxRecDepth 16384

noncomputable section

namespace Cert.KernelIdeal.Own

open Idealize.ShloMosaic Idealize.ShloMosaic.TcCoe Idealize.SL.Sem
open Cert.KernelIdeal Cert.KernelIdeal.Gen Cert.Graph
open Idealize.ShloMosaic.Pipeline (Dat)
open Cert.ReferenceIdeal.Read (val_main_v3 val_main_v19 val_main_v22 val_main_v34 val_main_v37 val_main_v41 val_main_v52)

/-- A window of a matrix, read at a position. -/
theorem win_at {n0 n1 k0 k1 : ℕ} {α : Type} (A : (⟨2, ![n0, n1]⟩ : Shape).Idx → α) (o0 o1 : ℕ)
    (inb : ∀ a : Fin 2, (![o0, o1] : Fin 2 → ℕ) a + (![k0, k1] : Fin 2 → ℕ) a ≤ (⟨2, ![n0, n1]⟩ : Shape).size a)
    (a : Fin k0) (b : Fin k1) (i : Fin n0) (j : Fin n1) (hi : i.val = o0 + a.val) (hj : j.val = o1 + b.val) :
    VecWindow.window (s := ⟨2, ![n0, n1]⟩) A ![o0, o1] ![k0, k1] inb (ix2 a b) = A (ix2 i j) := by
  refine congrArg A (funext fun d => ?_)
  fin_cases d <;> refine Fin.ext ?_
  · show o0 + 1 * a.val = i.val; omega
  · show o1 + 1 * b.val = j.val; omega

section rows

variable (A : Vec Ideal S4096x4096 .i16) (Z : Vec Ideal S16x4096 .f32) (L : Vec Ideal S4096x16 .f32) (b : Vec Ideal S1x16 .f32)

/-- One logit of a row, from the row's words and the projected features. -/
def logit (i : Fin 4096) (x : Fin 16) : EReal :=
  (∑ y : Fin 4096, FloatOps.sitofp (F := Ideal) .f32 (A (ix2 i y)) * Z (ix2 x y)) * invScale + b (ix2 0 x)

theorem hiAt_at (i : Fin 4096) (o : Fin 16) (r : ℕ) (hr : r < 32) (q : Fin 128) (hi : i.val = 128 * r + q.val) :
    hiAt A Z b r hr (ix2 q o) = soft (logit A Z b i) o := by
  refine (rowHi_at _ Z b q o).trans (congrArg (fun f => soft f o) (funext fun x => ?_))
  refine congrArg (fun s => s * invScale + b (ix2 0 x)) (Finset.sum_congr rfl fun y _ => ?_)
  exact congrArg (fun w => FloatOps.sitofp (F := Ideal) .f32 w * Z (ix2 x y)) (win_at A (128 * r) 0 _ q y i y hi (by omega))

theorem loAt_at (i : Fin 4096) (o : Fin 16) (r : ℕ) (hr : r < 16) (q : Fin 128) (hi : i.val = 128 * r + q.val)
    (hL : ∀ x : Fin 16, L (ix2 i x) = 0 + ∑ y : Fin 2048, FloatOps.sitofp (F := Ideal) .f32 (A (ix2 i ⟨y.val, by omega⟩)) * Z (ix2 x ⟨y.val, by omega⟩)) :
    loAt A Z L b r hr (ix2 q o) = soft (logit A Z b i) o := by
  refine (rowLo_at _ _ _ b q o).trans (congrArg (fun f => soft f o) (funext fun x => ?_))
  refine congrArg (fun s => s * invScale + b (ix2 0 x)) ?_
  refine Eq.trans ?_ (Fin.sum_univ_two_halves 2048 2048 rfl _).symm
  refine (add_comm _ _).trans (congrArg₂ (· + ·) ?_ (Finset.sum_congr rfl fun y _ => ?_))
  · exact ((win_at L (128 * r) 0 _ q x i x hi (by omega)).trans (hL x)).trans (zero_add _)
  · exact congrArg₂ (fun w z => FloatOps.sitofp (F := Ideal) .f32 w * z)
      (win_at A (128 * r) 2048 _ q y i ⟨2048 + y.val, by omega⟩ hi rfl)
      (win_at Z 0 2048 _ x y x ⟨2048 + y.val, by omega⟩ (by omega) rfl)

theorem outOf_at (i : Fin 4096) (o : Fin 16)
    (hL : i.val / 128 < 16 → ∀ x : Fin 16, L (ix2 i x) = 0 + ∑ y : Fin 2048, FloatOps.sitofp (F := Ideal) .f32 (A (ix2 i ⟨y.val, by omega⟩)) * Z (ix2 x ⟨y.val, by omega⟩)) :
    outOf A Z L b (ix2 i o) = soft (logit A Z b i) o := by
  by_cases h : i.val / 128 < 16
  · refine (dif_pos (show ((ix2 i o : S4096x16.Idx) 0).val / 128 < 16 from h)).trans ?_
    exact loAt_at A Z L b i o _ h ⟨i.val % 128, Nat.mod_lt _ (by decide)⟩ (by show i.val = 128 * (i.val / 128) + i.val % 128; omega) (hL h)
  · refine (dif_neg (show ¬ ((ix2 i o : S4096x16.Idx) 0).val / 128 < 16 from h)).trans ?_
    exact hiAt_at A Z b i o _ _ ⟨i.val % 128, Nat.mod_lt _ (by decide)⟩ (by show i.val = 128 * (i.val / 128) + i.val % 128; omega)

end rows

variable (m : (ℓ : Loc nD τ sig) → Buf (Elt Ideal) ℓ) (c : Dev nD)

abbrev G0 : FVec Ideal S4096x3x128 .f32 := m ((c.tc : Thread nD τ).loc main_arg0)
abbrev G1 : FVec Ideal S3x4096x4096 .f32 := m ((c.tc : Thread nD τ).loc main_arg1)
abbrev G2 : FVec Ideal S16x16 .f32 := m ((c.tc : Thread nD τ).loc main_arg2)
abbrev G3 : FVec Ideal S4096x16 .f32 := m ((c.tc : Thread nD τ).loc main_arg3)
abbrev G4 : FVec Ideal S128x128 .f32 := m ((c.tc : Thread nD τ).loc main_arg4)
abbrev G5 : FVec Ideal S128 .f32 := m ((c.tc : Thread nD τ).loc main_arg5)
abbrev G6 : FVec Ideal S128x16 .f32 := m ((c.tc : Thread nD τ).loc main_arg6)
abbrev G7 : FVec Ideal S16 .f32 := m ((c.tc : Thread nD τ).loc main_arg7)

theorem idx : ∀ t : Fin cfg0.N, win0_0.index t = ![0, t.val, 0] ∧ win0_1.index t = ![t.val, 0] ∧ win0_2.index t = ![0, 0]
    ∧ win0_3.index t = ![0, 0] ∧ win0_4.index t = ![0, 0] ∧ win0_5.index t = ![0, 0] ∧ win0_6.index t = ![0, 0]
    ∧ win0_7.index t = ![0, 0] ∧ win0_8.index t = ![0, 0] ∧ win0_9.index t = ![0, 0] :=
  (by decide +kernel : ∀ t : Fin grid0.N, _)

section blocks

variable (t : Fin cfg0.N)

theorem blk0 (k : Fin 3) (r : Fin 128) (j i : Fin 4096) (hi : i.val = 128 * t.val + r.val) :
    iblk m c 0 t (ix3 k r j) = G1 m c (ix3 k i j) := by
  blk_ext [iblk, V, idx t]

theorem blk1 (r : Fin 128) (j : Fin 16) (i : Fin 4096) (hi : i.val = 128 * t.val + r.val) :
    iblk m c 1 t (ix2 r j) = G3 m c (ix2 i j) := by
  blk_ext [iblk, V, idx t]

theorem blk2 : iblk m c 2 t = G3 m c := by blk_ext! [iblk, V, idx t]
theorem blk3 : iblk m c 3 t = G2 m c := by blk_ext! [iblk, V, idx t]
theorem blk5 : iblk m c 5 t = G4 m c := by blk_ext! [iblk, V, idx t]
theorem blk7 : iblk m c 7 t = G6 m c := by blk_ext! [iblk, V, idx t]

theorem entry1 (i : Fin 4096) (j : Fin 128) : V m c main_v1 (ix2 i j) = G0 m c (ix3 i 2 j) := by
  entry_read
  pointwise

theorem entry2 (j : Fin 128) : V m c main_v2 (ix2 0 j) = G5 m c (ix1 j) := by
  entry_read
  pointwise

theorem entry3 (j : Fin 16) : V m c main_v3 (ix2 0 j) = G7 m c (ix1 j) := by
  entry_read
  pointwise

theorem blk4 (i : Fin 4096) (j : Fin 128) : iblk m c 4 t (ix2 i j) = G0 m c (ix3 i 2 j) := by
  rw [← entry1]
  blk_ext [iblk, idx t]

theorem blk6 (j : Fin 128) : iblk m c 6 t (ix2 0 j) = G5 m c (ix1 j) := by
  rw [← entry2]
  blk_ext [iblk, idx t]

theorem blk8 (j : Fin 16) : iblk m c 8 t (ix2 0 j) = G7 m c (ix1 j) := by
  rw [← entry3]
  blk_ext [iblk, idx t]

end blocks

section stages

variable (hA : ∀ y, Fine (G1 m c y)) (hH : ∀ y, Fine (G3 m c y))

include hH in
theorem fine_weight (l : Fin 16 → EReal) (hl : ∀ y, Fine (l y)) (j : Fin 4096) : Fine (weight (G2 m c) l (G3 m c) j) :=
  Fine.sum _ _ fun x => (Fine.sum _ _ fun y => (hl y).mul (fine_clip _)).mul (hH _)

include hA hH in
theorem fold_stage (t : Fin cfg0.N) (r : Fin 128) (j i : Fin 4096) (hi : i.val = 128 * t.val + r.val) :
    foldAt m c t (ix2 r j) = val_main_v19 (F := Ideal) (G1 m c) (G2 m c) (G3 m c) (ix2 i j) := by
  have hw := fine_weight m c hH (fun y => G3 m c (ix2 i y)) (fun y => hH _) j
  refine (foldOf_at _ _ _ _ r j).trans ?_
  rw [blk0 m c t 0 r j i hi, blk0 m c t 1 r j i hi, blk0 m c t 2 r j i hi, blk2 m c t, blk3 m c t,
    show (fun y => iblk m c 1 t (ix2 r y)) = fun y => G3 m c (ix2 i y) from funext fun y => blk1 m c t r y i hi]
  refine (fold_eq hw (hA _) (hA _) (hA _)).trans ?_
  rw [Cert.ReferenceIdeal.Own.fold_at, Cert.ReferenceIdeal.Own.weight_eq]

include hA hH in
theorem fine_fold (i j : Fin 4096) : Fine (val_main_v19 (F := Ideal) (G1 m c) (G2 m c) (G3 m c) (ix2 i j)) := by
  have hw := fine_weight m c hH (fun y => G3 m c (ix2 i y)) (fun y => hH _) j
  rw [Cert.ReferenceIdeal.Own.fold_at, Cert.ReferenceIdeal.Own.weight_eq]
  have h1 : Fine (1 - weight (G2 m c) (fun y => G3 m c (ix2 i y)) (G3 m c) j) := Fine.sub ⟨1, by simp⟩ hw
  exact (h1.mul ((h1.mul (hA _)).add (hw.mul (hA _)))).add (hw.mul (hA _))

include hA hH in
/-- A word, as a number, is the reference's. -/
theorem word_stage (i j : Fin 4096) :
    FloatOps.sitofp (F := Ideal) .f32 (wFin m c (ix2 i j))
      = val_main_v34 (F := Ideal) (G1 m c) (G2 m c) (G3 m c) (ix2 i j) := by
  have hv : Fine (val_main_v19 (F := Ideal) (G1 m c) (G2 m c) (G3 m c) (ix2 i j) * Ideal.ofBits .f32 0x46FFFE00#32
      + Ideal.ofBits .f32 0x3EFF7CEE#32) :=
    ((fine_fold m c hA hH i j).mul ⟨_, lit_scale⟩).add fine_half
  have hw : wFin m c (ix2 i j) = Ideal.fptosi 16 (val_main_v19 (F := Ideal) (G1 m c) (G2 m c) (G3 m c) (ix2 i j)
      * Ideal.ofBits .f32 0x46FFFE00#32 + Ideal.ofBits .f32 0x3EFF7CEE#32) := by
    refine (wordOf_at _ _ _ _ _ j).trans ?_
    refine congrArg (fun f => Ideal.fptosi 16 (f * Ideal.ofBits .f32 0x46FFFE00#32 + Ideal.ofBits .f32 0x3EFF7CEE#32)) ?_
    exact fold_stage m c hA hH _ _ j i (by show i.val = 128 * (i.val / 128) + i.val % 128; omega)
  rw [Cert.ReferenceIdeal.Own.word_at, hw]
  show (((Ideal.fptosi 16 _).toInt : ℝ) : EReal) = (((Ideal.fptosi 32 _).toInt : ℝ) : EReal)
  rw [round_eq hv, lit_low, ← lit_scale]

theorem feat_stage (i : Fin 4096) (j : Fin 128) :
    xwFin m c (ix2 i j) = val_main_v22 (F := Ideal) (G0 m c) (G4 m c) (ix2 i j) := by
  refine (xw_at _ _ i j).trans ?_
  rw [Cert.ReferenceIdeal.Own.feat_at, blk5]
  exact Finset.sum_congr rfl fun y _ => congrArg (· * _) (blk4 m c _ i y)

include hA hH in
theorem hidden_stage (i : Fin 4096) (o : Fin 16) :
    zFin m c (ix2 o i) = val_main_v37 (F := Ideal) (G0 m c) (G1 m c) (G2 m c) (G3 m c) (G4 m c) (G5 m c) (G6 m c) (ix2 i o) := by
  refine (hidden_at _ _ _ _ o _).trans ?_
  rw [Cert.ReferenceIdeal.Own.hidden_at, blk7]
  refine Finset.sum_congr rfl fun x _ => congrArg (fun s => max s 0 * _) ?_
  refine congrArg₂ (· + ·) (Finset.sum_congr rfl fun y _ => congrArg₂ (· * ·) ?_ (feat_stage m c y x)) (blk6 m c _ x)
  exact fold_stage m c hA hH _ _ y i (by show i.val = 128 * (i.val / 128) + i.val % 128; omega)

include hA hH in
theorem logit_stage (t : Fin cfg0.N) (i : Fin 4096) (o : Fin 16) :
    logit (wFin m c) (zFin m c) (iblk m c 8 t) i o
      = val_main_v41 (F := Ideal) (G0 m c) (G1 m c) (G2 m c) (G3 m c) (G4 m c) (G5 m c) (G6 m c) (G7 m c) (ix2 i o) := by
  unfold logit
  rw [Cert.ReferenceIdeal.Own.logit_at, blk8]
  refine congrArg (· + _) ((sum_scale _ _ _ (by norm_num)).trans (Finset.sum_congr rfl fun y _ => ?_))
  rw [word_stage m c hA hH, hidden_stage m c hA hH, lit_scale, Ideal.div_coe (by norm_num)]
  exact mul_right_comm _ _ _

/-- The sums the kernel carries over the first half of the columns. -/
theorem sums_stage (i : Fin 4096) (h : i.val / 128 < 16) (x : Fin 16) :
    lUpto m c 32 (ix2 i x) = 0 + ∑ y : Fin 2048,
      FloatOps.sitofp (F := Ideal) .f32 (wFin m c (ix2 i ⟨y.val, by omega⟩)) * zFin m c (ix2 x ⟨y.val, by omega⟩) := by
  have hi : i.val = 128 * (i.val / 128) + i.val % 128 := by omega
  refine (dif_pos (show ((ix2 i x : S4096x16.Idx) 0).val / 128 < 16 ∧ ((ix2 i x : S4096x16.Idx) 0).val / 128 + 16 < 32 from
    ⟨h, by show i.val / 128 + 16 < 32; omega⟩)).trans ?_
  refine (half_at _ _ _ ⟨i.val % 128, Nat.mod_lt _ (by decide)⟩ x).trans ?_
  refine congrArg₂ (· + ·) ?_ (Finset.sum_congr rfl fun y _ => congrArg₂ (fun w z => FloatOps.sitofp (F := Ideal) .f32 w * z) ?_ ?_)
  · exact (win_at (k0_pay55 (F := Ideal)) (128 * (i.val / 128)) 0 _ _ x i x hi (by omega)).trans (zeros_at i x)
  · exact win_at (wFin m c) (128 * (i.val / 128)) 0 _ _ y i ⟨y.val, by omega⟩ hi (by show y.val = 0 + y.val; omega)
  · exact win_at (zFin m c) 0 0 _ x y x ⟨y.val, by omega⟩ (by omega) (by show y.val = 0 + y.val; omega)

include hA hH in
theorem out_stage (t : Fin cfg0.N) (i : Fin 4096) (o : Fin 16) :
    outFin m c t (ix2 i o)
      = val_main_v52 (F := Ideal) (G0 m c) (G1 m c) (G2 m c) (G3 m c) (G4 m c) (G5 m c) (G6 m c) (G7 m c) (ix2 i o) := by
  refine (outOf_at _ _ _ _ i o (fun h x => sums_stage m c i h x)).trans ?_
  rw [Cert.ReferenceIdeal.Own.soft_at]
  exact congrArg (fun f => soft f o) (funext fun x => logit_stage m c hA hH t i x)

include hA hH in
/-- The output array at the end is the reference's result. -/
theorem final : (dats m 0 c).arrAt 9 cfg0.N
    = val_main_v52 (F := Ideal) (G0 m c) (G1 m c) (G2 m c) (G3 m c) (G4 m c) (G5 m c) (G6 m c) (G7 m c) := by
  refine (dats m 0 c).arrAt_eq_of_covers 9 _ (by decide +kernel) fun t hf y => ?_
  blk_simp [idx t]
  rw [after_9]
  have e : (win0_9.blk t).view.emb y = (ix2 (n0 := 4096) (n1 := 16) (y 0) (y 1)) := by
    blk_ext [idx t]
  rw [e]
  exact (congrArg (outFin m c t) (eq_ix2 (n0 := 4096) (n1 := 16) y)).trans (out_stage m c hA hH t (y 0) (y 1))

end stages

end Cert.KernelIdeal.Own
-- ==== Proof.lean ====
/- The claim's assembly: the frames of the three programs (Proof/K, Proof/KI, and the reference's generated run), the
   one named constant, and the equality of the two results (Proof/Value). -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.K.Run
public import proofs.«01_k».proof.Proof.KI.Run
public import proofs.«01_k».proof.Proof.KI.Value
public import Idealize.ShloMosaic.Lib.Claim

@[expose] public section

noncomputable section

namespace Cert.Proof

open Idealize.ShloMosaic Idealize.SL.Sem

/-- The side conditions of the precondition's operations. -/
theorem pre_facts : Cert.Pre_finite_graph.Facts where
  bcast_S_S3x4096x4096 := by decide
  bcast_S_S4096x16 := by decide

section

attribute [local instance] Cert.Kernel.Gen.facts Cert.KernelIdeal.Gen.facts Cert.ReferenceIdeal.Gen.facts pre_facts

/-- The reference runs, its arguments end unchanged, and it declares no semaphore. -/
theorem reference_frame : Cert.quiescent_ReferenceIdeal := fun m g _ =>
  (θ_run Cert.ReferenceIdeal.defs _ _).mono
    (fun r h => ⟨fun c => (h c).2, sem_eq_zero_of_no_sems (by decide) r.2⟩) (Cert.ReferenceIdeal.Value.run m g)

theorem kernel_frame : Cert.quiescent_Kernel := fun m g _ => Cert.Kernel.Own.frame_holds m g

theorem ideal_frame : Cert.quiescent_KernelIdeal := fun m g _ => Cert.KernelIdeal.Own.frame_holds m g

theorem constant_named : Cert.preserves_Kernel_KernelIdeal :=
  IdealRules.named_const.statement Cert.KernelIdeal.κ "inv_scale" .f32 0x38000100#32 ((1 / 32767 : ℝ) : EReal) rfl

/-- What the precondition says of the two arrays it constrains: every entry is a finite number. -/
theorem finite_of_pre (m : (ℓ : Loc Cert.KernelIdeal.nD Cert.KernelIdeal.τ Cert.KernelIdeal.sig) → Buf (Elt Ideal) ℓ)
    (hpre : Cert.Pre_KernelIdeal_finite_graph m) (c : Dev Cert.KernelIdeal.nD) :
    (∀ y, Cert.KernelIdeal.Own.Fine (Cert.KernelIdeal.Own.G1 m c y)) ∧ ∀ y, Cert.KernelIdeal.Own.Fine (Cert.KernelIdeal.Own.G3 m c y) := by
  have key : ∀ x : EReal, BitVec.ofBool (decide (max x (-x) < Ideal.ofBits .f32 0x7F800000#32)) = 1#1 → Cert.KernelIdeal.Own.Fine x := by
    intro x h
    have top : Ideal.ofBits .f32 0x7F800000#32 = ⊤ := by simp [Ideal.ofBits, Ideal.ieee]
    rw [top] at h
    by_cases hx : max x (-x) < ⊤
    · exact Cert.KernelIdeal.Own.fine_of_abs hx
    · rw [decide_eq_false hx] at h
      exact absurd h (by decide)
  exact ⟨fun y => key _ (congrFun (hpre c).1 y), fun y => key _ (congrFun (hpre c).2 y)⟩

theorem same_values : Cert.algebraic_KernelIdeal_ReferenceIdeal_pre_finite_graph := by
  intro m g m' g' hpre hagree
  refine ⟨fun c => Cert.ReferenceIdeal.Read.val_main_v52 (F := Ideal) (Cert.KernelIdeal.Own.G0 m c) (Cert.KernelIdeal.Own.G1 m c)
    (Cert.KernelIdeal.Own.G2 m c) (Cert.KernelIdeal.Own.G3 m c) (Cert.KernelIdeal.Own.G4 m c) (Cert.KernelIdeal.Own.G5 m c)
    (Cert.KernelIdeal.Own.G6 m c) (Cert.KernelIdeal.Own.G7 m c), ?_, ?_⟩
  · refine (θ_run Cert.KernelIdeal.defs _ _).mono (fun r h c => ⟨?_, h.2.1 c⟩)
      (θ_run_and (Cert.KernelIdeal.Own.run_main m g) (Cert.KernelIdeal.Own.frame_holds m g))
    exact ((h.1 c).1 9).trans (Cert.KernelIdeal.Own.final m c (finite_of_pre m hpre c).1 (finite_of_pre m hpre c).2)
  · refine (θ_run Cert.ReferenceIdeal.defs _ _).mono (fun r h c => ⟨?_, (h c).2⟩) (Cert.ReferenceIdeal.Value.run m' g')
    refine (h c).1.trans ((Cert.ReferenceIdeal.Read.val_main_v52_eq m' c).trans ?_)
    obtain ⟨e0, e1, e2, e3, e4, e5, e6, e7⟩ := hagree c
    rw [e0, e1, e2, e3, e4, e5, e6, e7]

end

theorem claim : Cert.Claim :=
  ⟨Cert.Kernel.Gen.facts, Cert.KernelIdeal.Gen.facts, Cert.ReferenceIdeal.Gen.facts, pre_facts,
    kernel_frame, ideal_frame, fun m g _ => ideal_frame m g trivial, reference_frame, fun m g _ => reference_frame m g trivial,
    constant_named, same_values⟩

end Cert.Proof

end
